-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_above_mask [hPre_scores_above_mask : Cert.Pre_scores_above_mask.Facts] (m : (ℓ : Loc Cert.KernelIdeal.nD Cert.KernelIdeal.τ Cert.KernelIdeal.sig) → Buf (Elt Ideal) ℓ) : Prop :=
  ∀ c : Dev Cert.KernelIdeal.nD,
    (Cert.Pre_scores_above_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_above_mask [hPre_scores_above_mask : Cert.Pre_scores_above_mask.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_above_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_above_mask [hKernelIdeal : Cert.KernelIdeal.Facts] [hPre_scores_above_mask : Cert.Pre_scores_above_mask.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_above_mask m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_above_mask [hReferenceIdeal : Cert.ReferenceIdeal.Facts] [hPre_scores_above_mask : Cert.Pre_scores_above_mask.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_above_mask m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scores_above_mask [hKernelIdeal : Cert.KernelIdeal.Facts] [hReferenceIdeal : Cert.ReferenceIdeal.Facts] [hPre_scores_above_mask : Cert.Pre_scores_above_mask.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_above_mask m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scores_above_mask : Cert.Pre_scores_above_mask.Facts),
    quiescent_Kernel (hKernel := hKernel)
    ∧ quiescent_KernelIdeal (hKernelIdeal := hKernelIdeal)
    ∧ quiescent_KernelIdeal_pre_scores_above_mask (hKernelIdeal := hKernelIdeal) (hPre_scores_above_mask := hPre_scores_above_mask)
    ∧ quiescent_ReferenceIdeal (hReferenceIdeal := hReferenceIdeal)
    ∧ quiescent_ReferenceIdeal_pre_scores_above_mask (hReferenceIdeal := hReferenceIdeal) (hPre_scores_above_mask := hPre_scores_above_mask)
    ∧ preserves_Kernel_KernelIdeal
    ∧ algebraic_KernelIdeal_ReferenceIdeal_pre_scores_above_mask (hKernelIdeal := hKernelIdeal) (hReferenceIdeal := hReferenceIdeal) (hPre_scores_above_mask := hPre_scores_above_mask)
-- ==== Pre_scores_above_mask.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x4096 : Shape := ⟨2, ![1024, 4096]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S_ : Shape := ⟨0, ![]⟩

class Facts : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []

variable [Facts]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def fn_where {F : FTy → Type} [FloatOps F] (arg0 : IVec S4096x4096 1) (arg1 : FVec F S4096x4096 .f32) (arg2 : FVec F S_ .f32) : FVec F S4096x4096 .f32 :=
  let v0 : FVec F S_ .f32 := id arg2
  let v1 : FVec F S4096x4096 .f32 := broadcastInDim S4096x4096 ![] bcast_S_S4096x4096 v0
  let v2 : FVec F S4096x4096 .f32 := select arg0 arg1 v1
  v2

def fn {F : FTy → Type} [FloatOps F] (main_arg0 : FVec F S4096x1024 .f32) (main_arg1 : FVec F S1024x1024 .f32) (main_arg2 : FVec F S1024 .f32) : IVec S4096x4096 1 :=
  let main_v0 : FVec F S1024x1024 .f32 := (transpose S1024x1024 [1, 0] · transposes_S1024x1024_S1024x1024_1_0) main_arg1
  let main_v1 : FVec F S4096x1024 .f32 := (fun l r => Host.dotGeneral dot_S4096x1024_S1024x1024_S4096x1024_1_0_0_1_n_n none l r) main_arg0 main_v0
  let main_v2 : FVec F S1x1024 .f32 := broadcastInDim S1x1024 ![1] bcast_S1024_S1x1024_1 main_arg2
  let main_v3 : FVec F S4096x1024 .f32 := broadcastInDim S4096x1024 ![0, 1] bcast_S1x1024_S4096x1024_0_1 main_v2
  let main_v4 : FVec F S4096x1024 .f32 := addf main_v1 main_v3
  let main_v5 : FVec F S1024x4096 .f32 := (transpose S1024x4096 [1, 0] · transposes_S4096x1024_S1024x4096_1_0) main_arg0
  let main_v6 : FVec F S4096x4096 .f32 := (fun l r => Host.dotGeneral dot_S4096x1024_S1024x4096_S4096x4096_1_0_0_1_n_n none l r) main_v4 main_v5
  let main_v7 : IVec S4096 32 := iotaInDim S4096 32 0
  let main_v8 : IVec S4096x1 32 := broadcastInDim S4096x1 ![0] bcast_S4096_S4096x1_0 main_v7
  let main_v9 : IVec S1x4096 32 := broadcastInDim S1x4096 ![1] bcast_S4096_S1x4096_1 main_v7
  let main_v10 : IVec S4096x4096 32 := broadcastInDim S4096x4096 ![0, 1] bcast_S4096x1_S4096x4096_0_1 main_v8
  let main_v11 : IVec S4096x4096 32 := broadcastInDim S4096x4096 ![0, 1] bcast_S1x4096_S4096x4096_0_1 main_v9
  let main_v12 : IVec S4096x4096 1 := cmpi .sgt main_v10 main_v11
  let main_cst : FVec F S_ .f32 := constant S_ .f32 0x00000000#32
  let main_v13 : FVec F S4096x4096 .f32 := fn_where (F := F) main_v12 main_v6 main_cst
  let main_cst_0 : FVec F S_ .f32 := constant S_ .f32 0xEFA18F08#32
  let main_v14 : FVec F S4096x4096 .f32 := broadcastInDim S4096x4096 ![] bcast_S_S4096x4096 main_cst_0
  let main_v15 : IVec S4096x4096 1 := cmpf .oge main_v13 main_v14
  main_v15
-- ==== Kernel.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S1x1024 : Shape := ⟨2, ![1, 1024]⟩
abbrev S1024x50 : Shape := ⟨2, ![1024, 50]⟩
abbrev S256x1024 : Shape := ⟨2, ![256, 1024]⟩
abbrev S256x50 : Shape := ⟨2, ![256, 50]⟩
abbrev S256x512 : Shape := ⟨2, ![256, 512]⟩
abbrev S256x64 : Shape := ⟨2, ![256, 64]⟩
abbrev S256x128 : Shape := ⟨2, ![256, 128]⟩
abbrev S256 : Shape := ⟨1, ![256]⟩
abbrev S256x1 : Shape := ⟨2, ![256, 1]⟩
abbrev S1x256x64 : Shape := ⟨3, ![1, 256, 64]⟩
abbrev S1 : Shape := ⟨1, ![1]⟩
abbrev S1x1x1 : Shape := ⟨3, ![1, 1, 1]⟩
abbrev S1024x2048 : Shape := ⟨2, ![1024, 2048]⟩
abbrev S256x2048 : Shape := ⟨2, ![256, 2048]⟩
abbrev S1024x3072 : Shape := ⟨2, ![1024, 3072]⟩
abbrev S256x3072 : Shape := ⟨2, ![256, 3072]⟩
abbrev S256x4096 : Shape := ⟨2, ![256, 4096]⟩
abbrev S4096x50 : Shape := ⟨2, ![4096, 50]⟩

abbrev nBuf : Space → Nat
  | .hbm => 19
  | .vmem => 48
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024x4096, .f32⟩
  | .hbm, ⟨5, _⟩ => ⟨S1x1024, .f32⟩
  | .hbm, ⟨6, _⟩ => ⟨S1024x1024, .f32⟩
  | .hbm, ⟨7, _⟩ => ⟨S1024x50, .f32⟩
  | .hbm, ⟨8, _⟩ => ⟨S1024x50, .i32⟩
  | .hbm, ⟨9, _⟩ => ⟨S1024x2048, .f32⟩
  | .hbm, ⟨10, _⟩ => ⟨S1024x50, .f32⟩
  | .hbm, ⟨11, _⟩ => ⟨S1024x50, .i32⟩
  | .hbm, ⟨12, _⟩ => ⟨S1024x3072, .f32⟩
  | .hbm, ⟨13, _⟩ => ⟨S1024x50, .f32⟩
  | .hbm, ⟨14, _⟩ => ⟨S1024x50, .i32⟩
  | .hbm, ⟨15, _⟩ => ⟨S1024x50, .f32⟩
  | .hbm, ⟨16, _⟩ => ⟨S1024x50, .i32⟩
  | .hbm, ⟨17, _⟩ => ⟨S4096x50, .f32⟩
  | .hbm, ⟨18, _⟩ => ⟨S4096x50, .i32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S256x50, .f32⟩
  | .local _ .vmem, ⟨6, _⟩ => ⟨S256x50, .f32⟩
  | .local _ .vmem, ⟨7, _⟩ => ⟨S256x50, .i32⟩
  | .local _ .vmem, ⟨8, _⟩ => ⟨S256x50, .i32⟩
  | .local _ .vmem, ⟨9, _⟩ => ⟨S256x1024, .f32⟩
  | .local _ .vmem, ⟨10, _⟩ => ⟨S256x512, .f32⟩
  | .local _ .vmem, ⟨11, _⟩ => ⟨S256x512, .i32⟩
  | .local _ .vmem, ⟨12, _⟩ => ⟨S256x1024, .f32⟩
  | .local _ .vmem, ⟨13, _⟩ => ⟨S256x1024, .f32⟩
  | .local _ .vmem, ⟨14, _⟩ => ⟨S1024x1024, .f32⟩
  | .local _ .vmem, ⟨15, _⟩ => ⟨S1x1024, .f32⟩
  | .local _ .vmem, ⟨16, _⟩ => ⟨S1024x2048, .f32⟩
  | .local _ .vmem, ⟨17, _⟩ => ⟨S256x50, .f32⟩
  | .local _ .vmem, ⟨18, _⟩ => ⟨S256x50, .f32⟩
  | .local _ .vmem, ⟨19, _⟩ => ⟨S256x50, .i32⟩
  | .local _ .vmem, ⟨20, _⟩ => ⟨S256x50, .i32⟩
  | .local _ .vmem, ⟨21, _⟩ => ⟨S256x2048, .f32⟩
  | .local _ .vmem, ⟨22, _⟩ => ⟨S256x512, .f32⟩
  | .local _ .vmem, ⟨23, _⟩ => ⟨S256x512, .i32⟩
  | .local _ .vmem, ⟨24, _⟩ => ⟨S256x1024, .f32⟩
  | .local _ .vmem, ⟨25, _⟩ => ⟨S256x1024, .f32⟩
  | .local _ .vmem, ⟨26, _⟩ => ⟨S1024x1024, .f32⟩
  | .local _ .vmem, ⟨27, _⟩ => ⟨S1x1024, .f32⟩
  | .local _ .vmem, ⟨28, _⟩ => ⟨S1024x3072, .f32⟩
  | .local _ .vmem, ⟨29, _⟩ => ⟨S256x50, .f32⟩
  | .local _ .vmem, ⟨30, _⟩ => ⟨S256x50, .f32⟩
  | .local _ .vmem, ⟨31, _⟩ => ⟨S256x50, .i32⟩
  | .local _ .vmem, ⟨32, _⟩ => ⟨S256x50, .i32⟩
  | .local _ .vmem, ⟨33, _⟩ => ⟨S256x3072, .f32⟩
  | .local _ .vmem, ⟨34, _⟩ => ⟨S256x512, .f32⟩
  | .local _ .vmem, ⟨35, _⟩ => ⟨S256x512, .i32⟩
  | .local _ .vmem, ⟨36, _⟩ => ⟨S256x1024, .f32⟩
  | .local _ .vmem, ⟨37, _⟩ => ⟨S256x1024, .f32⟩
  | .local _ .vmem, ⟨38, _⟩ => ⟨S1024x1024, .f32⟩
  | .local _ .vmem, ⟨39, _⟩ => ⟨S1x1024, .f32⟩
  | .local _ .vmem, ⟨40, _⟩ => ⟨S1024x4096, .f32⟩
  | .local _ .vmem, ⟨41, _⟩ => ⟨S256x50, .f32⟩
  | .local _ .vmem, ⟨42, _⟩ => ⟨S256x50, .f32⟩
  | .local _ .vmem, ⟨43, _⟩ => ⟨S256x50, .i32⟩
  | .local _ .vmem, ⟨44, _⟩ => ⟨S256x50, .i32⟩
  | .local _ .vmem, ⟨45, _⟩ => ⟨S256x4096, .f32⟩
  | .local _ .vmem, ⟨46, _⟩ => ⟨S256x512, .f32⟩
  | .local _ .vmem, ⟨47, _⟩ => ⟨S256x512, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9_0 : Ref sig .tc := ⟨.hbm, 15, rfl⟩
abbrev main_v9_1 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_scratch0 : Ref sig .tc := ⟨.vmem, 33, rfl⟩
abbrev cc2_scratch1 : Ref sig .tc := ⟨.vmem, 34, rfl⟩
abbrev cc2_scratch2 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg4_1 : Ref sig .tc := ⟨.vmem, 42, rfl⟩
abbrev cc3_stg5_0 : Ref sig .tc := ⟨.vmem, 43, rfl⟩
abbrev cc3_stg5_1 : Ref sig .tc := ⟨.vmem, 44, rfl⟩
abbrev cc3_scratch0 : Ref sig .tc := ⟨.vmem, 45, rfl⟩
abbrev cc3_scratch1 : Ref sig .tc := ⟨.vmem, 46, rfl⟩
abbrev cc3_scratch2 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem4_1 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_187 : BitVec 32 := 0#32
  let c2_i32_188 : BitVec 32 := 2#32
  let v730 : BitVec 32 := Scalar.addi c0_i32_187 c2_i32_188
  let c1_i32 : BitVec 32 := 1#32
  ⟨c0_i32_187, v730, c1_i32⟩
@[reducible] def k0_t2_loop : Scf.Loop 32 :=
  let c0_i32_205 : BitVec 32 := 0#32
  let c50_i32 : BitVec 32 := 50#32
  let v755 : BitVec 32 := Scalar.addi c0_i32_205 c50_i32
  let c1_i32_206 : BitVec 32 := 1#32
  ⟨c0_i32_205, v755, c1_i32_206⟩
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x50 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x50 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

@[reducible] def k1_t1_loop : Scf.Loop 32 :=
  let c0_i32_355 : BitVec 32 := 0#32
  let c2_i32_356 : BitVec 32 := 2#32
  let v1338 : BitVec 32 := Scalar.addi c0_i32_355 c2_i32_356
  let c1_i32 : BitVec 32 := 1#32
  ⟨c0_i32_355, v1338, c1_i32⟩
@[reducible] def k1_t2_loop : Scf.Loop 32 :=
  let c0_i32_373 : BitVec 32 := 0#32
  let c50_i32 : BitVec 32 := 50#32
  let v1363 : BitVec 32 := Scalar.addi c0_i32_373 c50_i32
  let c1_i32_374 : BitVec 32 := 1#32
  ⟨c0_i32_373, v1363, c1_i32_374⟩
def cc1_transform_0 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x50 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x50 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

@[reducible] def k2_t1_loop : Scf.Loop 32 :=
  let c0_i32_523 : BitVec 32 := 0#32
  let c2_i32_524 : BitVec 32 := 2#32
  let v1946 : BitVec 32 := Scalar.addi c0_i32_523 c2_i32_524
  let c1_i32 : BitVec 32 := 1#32
  ⟨c0_i32_523, v1946, c1_i32⟩
@[reducible] def k2_t2_loop : Scf.Loop 32 :=
  let c0_i32_541 : BitVec 32 := 0#32
  let c50_i32 : BitVec 32 := 50#32
  let v1971 : BitVec 32 := Scalar.addi c0_i32_541 c50_i32
  let c1_i32_542 : BitVec 32 := 1#32
  ⟨c0_i32_541, v1971, c1_i32_542⟩
def cc2_transform_0 (i : grid2.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x3072 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x50 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x50 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![4], ![false]⟩

@[reducible] def k3_t1_loop : Scf.Loop 32 :=
  let c0_i32_691 : BitVec 32 := 0#32
  let c2_i32_692 : BitVec 32 := 2#32
  let v2554 : BitVec 32 := Scalar.addi c0_i32_691 c2_i32_692
  let c1_i32 : BitVec 32 := 1#32
  ⟨c0_i32_691, v2554, c1_i32⟩
@[reducible] def k3_t2_loop : Scf.Loop 32 :=
  let c0_i32_709 : BitVec 32 := 0#32
  let c50_i32_710 : BitVec 32 := 50#32
  let v2579 : BitVec 32 := Scalar.addi c0_i32_709 c50_i32_710
  let c1_i32_711 : BitVec 32 := 1#32
  ⟨c0_i32_709, v2579, c1_i32_711⟩
def cc3_transform_0 (i : grid3.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x4096 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S256x50 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x50 .i32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x1024 : Shape := ⟨2, ![1, 1024]⟩
abbrev S1024x4096 : Shape := ⟨2, ![1024, 4096]⟩
abbrev S4096x50 : Shape := ⟨2, ![4096, 50]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S4096, .i32⟩
  | .hbm, ⟨4, _⟩ => ⟨S4096x1, .i32⟩
  | .hbm, ⟨5, _⟩ => ⟨S1x4096, .i32⟩
  | .hbm, ⟨6, _⟩ => ⟨S4096x4096, .i32⟩
  | .hbm, ⟨7, _⟩ => ⟨S4096x4096, .i32⟩
  | .hbm, ⟨8, _⟩ => ⟨S4096x4096, .i32⟩
  | .hbm, ⟨9, _⟩ => ⟨S_, .i32⟩
  | .hbm, ⟨10, _⟩ => ⟨S4096x4096, .i32⟩
  | .hbm, ⟨11, _⟩ => ⟨S4096x4096, .i1⟩
  | .hbm, ⟨12, _⟩ => ⟨S4096x4096, .f32⟩
  | .hbm, ⟨13, _⟩ => ⟨S4096x4096, .f32⟩
  | .hbm, ⟨14, _⟩ => ⟨S1024x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1024x4096, .f32⟩
  | .hbm, ⟨20, _⟩ => ⟨S4096x4096, .f32⟩
  | .hbm, ⟨21, _⟩ => ⟨S4096x4096, .f32⟩
  | .hbm, ⟨22, _⟩ => ⟨S4096x50, .f32⟩
  | .hbm, ⟨23, _⟩ => ⟨S4096x50, .i32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_values : Ref sig .tc := ⟨.hbm, 22, rfl⟩
abbrev main_indices : Ref sig .tc := ⟨.hbm, 23, rfl⟩

abbrev nD : Nat := 1
abbrev τ : Topo := Topo.v7x

variable {F : FTy → Type} [FloatOps F]
-- ==== Proof.Span.lean ====
/- The kernel's region body, written once for every width: one span's 256-row block at width `W = 128 · vc`. The four
   regions of the program are its instances at `vc = 8, 16, 24, 32` (Proof/Bodies.lean). -/
module

public import Idealize.ShloMosaic.PureOps
public import Idealize.ShloMosaic.Run
public import Idealize.ShloMosaic.Lib.Scf
public import Idealize.ShloMosaic.Lib.Pipeline.Kit
public import Idealize.ShloMosaic.Lib.Exec
public import Idealize.ShloMosaic.Lib.Tactic

@[expose] public section

noncomputable section

namespace Cert.Span

open Idealize.ShloMosaic Idealize.SL.Sem

variable {F : FTy → Type} [FloatOps F]

/-- The shape of a matrix. -/
abbrev sh (r c : Nat) : Shape := ⟨2, ![r, c]⟩
/-- The shape of a column of 256 numbers without its unit axis. -/
abbrev s256 : Shape := ⟨1, ![256]⟩

/-! ## The scores -/

/-- The column numbers of a block. -/
def colI (W : Nat) (hi : (sh 256 W).Iotas .tc 32 [1]) : IVec (sh 256 W) 32 := iota .tc (sh 256 W) 32 [1] hi

/-- The masked scores of a block: the bilinear form below the diagonal, a large negative number falling with the column
    on and above it. `base` is the number of the block's rows in blocks of 256. -/
def scores (W : Nat) (base : BitVec 32) (d₁ : DotDims (sh 256 1024) (sh 1024 1024) (sh 256 1024))
    (d₂ : DotDims (sh 256 1024) (sh 1024 W) (sh 256 W)) (h₁ : (sh 1024 1024).ShapeCasts (sh 1024 1024))
    (h₂ : (sh 1 1024).ShapeCasts (sh 1 1024)) (h₃ : (sh 1 1024).Broadcasts (sh 256 1024))
    (h₄ : (sh 1024 W).ShapeCasts (sh 1024 W)) (hi₁ : (sh 256 W).Iotas .tc 32 [1]) (hi₀ : (sh 256 W).Iotas .tc 32 [0])
    (m : Vec F (sh 256 1024) .f32) (wt : Vec F (sh 1024 1024) .f32) (b : Vec F (sh 1 1024) .f32)
    (mt : Vec F (sh 1024 W) .f32) : FVec F (sh 256 W) .f32 :=
  select (cmpi .slt (colI W hi₁) (addi (broadcast (sh 256 W) (Scalar.muli base 256#32)) (iota .tc (sh 256 W) 32 [0] hi₀)))
    (matmul d₂ none
      (addf (matmul d₁ none m (shapeCast (sh 1024 1024) wt h₁) (constant (sh 256 1024) .f32 0x00000000#32))
        (broadcastTo (sh 256 1024) (shapeCast (sh 1 1024) b h₂) h₃))
      (shapeCast (sh 1024 W) mt h₄) (constant (sh 256 W) .f32 0x00000000#32))
    (subf (broadcast (sh 256 W) (Scalar.ofBits .f32 0xF149F2CA#32))
      (mulf (sitofp .f32 (colI W hi₁)) (broadcast (sh 256 W) (Scalar.ofBits .f32 0x6753C21C#32))))

/-! ## The candidates -/

/-- The mark of a score already taken. -/
abbrev neg (r c : Nat) : FVec F (sh r c) .f32 := broadcast (sh r c) (Scalar.ofBits .f32 0xFF7FC99E#32)

/-- The half of a 128-column group a lane lies in. -/
def half (hi : (sh 256 128).Iotas .tc 32 [1]) : IVec (sh 256 128) 32 :=
  extui 32 (cmpi .sge (iota .tc (sh 256 128) 32 [1] hi) (broadcast (sh 256 128) 64#32)) (by decide)

/-- The number, in groups of 64 columns, of column group `v` at each lane. -/
def part (hi : (sh 256 128).Iotas .tc 32 [1]) (v : Nat) : IVec (sh 256 128) 32 :=
  addi (half hi) (broadcast (sh 256 128) (BitVec.ofNat 32 (2 * v)))

/-- The running maximum over the groups `0 … v`, with the number of the group that first set it. -/
def scan {vc : Nat} (hi : (sh 256 128).Iotas .tc 32 [1]) (vals : (v : Nat) → v < vc → FVec F (sh 256 128) .f32) :
    (v : Nat) → v < vc → FVec F (sh 256 128) .f32 × IVec (sh 256 128) 32
  | 0, h => (vals 0 h, half hi)
  | v + 1, h =>
    (select (cmpf .ogt (vals (v + 1) h) (scan hi vals v (Nat.lt_of_succ_lt h)).1) (vals (v + 1) h)
        (scan hi vals v (Nat.lt_of_succ_lt h)).1,
     select (cmpf .ogt (vals (v + 1) h) (scan hi vals v (Nat.lt_of_succ_lt h)).1) (part hi (v + 1))
        (scan hi vals v (Nat.lt_of_succ_lt h)).2)

/-- Whether the right half of the lanes holds the better entry: the greater score, or the same at a lower group. -/
def take (sa sb : (sh 256 128).Slices ![0, 0] (sh 256 64) ∧ (sh 256 128).Slices ![0, 64] (sh 256 64))
    (p : FVec F (sh 256 128) .f32 × IVec (sh 256 128) 32) : IVec (sh 256 64) 1 :=
  ori (cmpf .ogt (extractStridedSlice (sh 256 64) ![0, 64] p.1 sb.2) (extractStridedSlice (sh 256 64) ![0, 0] p.1 sa.1))
    (andi (cmpf .oeq (extractStridedSlice (sh 256 64) ![0, 64] p.1 sb.2) (extractStridedSlice (sh 256 64) ![0, 0] p.1 sa.1))
      (cmpi .slt (extractStridedSlice (sh 256 64) ![0, 64] p.2 sb.2) (extractStridedSlice (sh 256 64) ![0, 0] p.2 sa.1)))

/-- The facts about the shapes of the candidates' computation, whatever the width. -/
structure Shapes : Prop where
  io : (sh 256 128).Iotas .tc 32 [1]
  sl : (sh 256 128).Slices ![0, 0] (sh 256 64) ∧ (sh 256 128).Slices ![0, 64] (sh 256 64)
  cc : Shape.Concatenates [sh 256 64, sh 256 64] (sh 256 128) 1
  io64 : (sh 256 64).Iotas .tc 32 [1]
  c8 : Shape.Concatenates [sh 256 64, sh 256 64, sh 256 64, sh 256 64, sh 256 64, sh 256 64, sh 256 64, sh 256 64] (sh 256 512) 1
  cast512 : (sh 256 512).ShapeCasts (sh 256 512)
  red512 : (sh 256 512).Reduces [1] s256
  cast1 : s256.ShapeCasts (sh 256 1)
  bc512 : (sh 256 1).Broadcasts (sh 256 512)
  cast11 : (sh 256 1).ShapeCasts (sh 256 1)
  bc64 : (sh 256 1).Broadcasts (sh 256 64)
  sl50 : (sh 256 64).Slices ![0, 0] (sh 256 50)
  cast3 : (sh 256 64).ShapeCasts ⟨3, ![1, 256, 64]⟩
  red3 : (⟨3, ![1, 256, 64]⟩ : Shape).Reduces [1, 2] ⟨1, ![1]⟩
  cast4 : (⟨1, ![1]⟩ : Shape).ShapeCasts ⟨3, ![1, 1, 1]⟩
  inp : ∀ a, (![0, 0, 0] : Fin 3 → Nat) a < (⟨3, ![1, 1, 1]⟩ : Shape).size a

variable (S : Shapes)

/-- One round's candidate of each of the 64 classes of columns: its score and the number of its group of 64. -/
def round {vc : Nat} (h0 : 0 < vc) (vals : (v : Nat) → v < vc → FVec F (sh 256 128) .f32) :
    FVec F (sh 256 64) .f32 × IVec (sh 256 64) 32 :=
  (select (take S.sl S.sl (scan S.io vals (vc - 1) (Nat.sub_one_lt (Nat.pos_iff_ne_zero.mp h0))))
      (extractStridedSlice (sh 256 64) ![0, 64] (scan S.io vals (vc - 1) (Nat.sub_one_lt (Nat.pos_iff_ne_zero.mp h0))).1 S.sl.2)
      (extractStridedSlice (sh 256 64) ![0, 0] (scan S.io vals (vc - 1) (Nat.sub_one_lt (Nat.pos_iff_ne_zero.mp h0))).1 S.sl.1),
   select (take S.sl S.sl (scan S.io vals (vc - 1) (Nat.sub_one_lt (Nat.pos_iff_ne_zero.mp h0))))
      (extractStridedSlice (sh 256 64) ![0, 64] (scan S.io vals (vc - 1) (Nat.sub_one_lt (Nat.pos_iff_ne_zero.mp h0))).2 S.sl.2)
      (extractStridedSlice (sh 256 64) ![0, 0] (scan S.io vals (vc - 1) (Nat.sub_one_lt (Nat.pos_iff_ne_zero.mp h0))).2 S.sl.1))

/-- The scores with a round's candidates marked taken. -/
def mark {vc : Nat} (cp : IVec (sh 256 64) 32) (vals : (v : Nat) → v < vc → FVec F (sh 256 128) .f32) :
    (v : Nat) → v < vc → FVec F (sh 256 128) .f32 :=
  fun v h => select (cmpi .eq (concatenate (sh 256 128) 1 [⟨sh 256 64, cp⟩, ⟨sh 256 64, cp⟩] S.cc) (part S.io v)) (neg 256 128) (vals v h)

/-- The scores before round `t`. -/
def left {vc : Nat} (h0 : 0 < vc) (vals : (v : Nat) → v < vc → FVec F (sh 256 128) .f32) :
    Nat → (v : Nat) → v < vc → FVec F (sh 256 128) .f32
  | 0 => vals
  | t + 1 => mark S (round S h0 (left h0 vals t)).2 (left h0 vals t)

/-- Round `t`'s candidates. -/
def cand {vc : Nat} (h0 : 0 < vc) (vals : (v : Nat) → v < vc → FVec F (sh 256 128) .f32) (t : Nat) :
    FVec F (sh 256 64) .f32 × IVec (sh 256 64) 32 := round S h0 (left S h0 vals t)

/-- The column groups of a block of scores. -/
def groups {W vc : Nat} (hsl : ∀ v < vc, (sh 256 W).Slices ![0, 128 * v] (sh 256 128)) (s : FVec F (sh 256 W) .f32) :
    (v : Nat) → v < vc → FVec F (sh 256 128) .f32 :=
  fun v h => extractStridedSlice (sh 256 128) ![0, 128 * v] s (hsl v h)

/-- The candidates of the eight rounds side by side. -/
def candS {vc : Nat} (h0 : 0 < vc) (vals : (v : Nat) → v < vc → FVec F (sh 256 128) .f32) : FVec F (sh 256 512) .f32 :=
  concatenate (sh 256 512) 1 [⟨sh 256 64, (cand S h0 vals 0).1⟩, ⟨sh 256 64, (cand S h0 vals 1).1⟩,
    ⟨sh 256 64, (cand S h0 vals 2).1⟩, ⟨sh 256 64, (cand S h0 vals 3).1⟩, ⟨sh 256 64, (cand S h0 vals 4).1⟩,
    ⟨sh 256 64, (cand S h0 vals 5).1⟩, ⟨sh 256 64, (cand S h0 vals 6).1⟩, ⟨sh 256 64, (cand S h0 vals 7).1⟩] S.c8

/-- A round's candidates' columns. -/
def gcol (cp : IVec (sh 256 64) 32) : IVec (sh 256 64) 32 :=
  addi (muli cp (broadcast (sh 256 64) 64#32)) (iota .tc (sh 256 64) 32 [1] S.io64)

/-- The candidates' columns, the eight rounds side by side. -/
def candI {vc : Nat} (h0 : 0 < vc) (vals : (v : Nat) → v < vc → FVec F (sh 256 128) .f32) : IVec (sh 256 512) 32 :=
  concatenate (sh 256 512) 1 [⟨sh 256 64, gcol S (cand S h0 vals 0).2⟩, ⟨sh 256 64, gcol S (cand S h0 vals 1).2⟩,
    ⟨sh 256 64, gcol S (cand S h0 vals 2).2⟩, ⟨sh 256 64, gcol S (cand S h0 vals 3).2⟩, ⟨sh 256 64, gcol S (cand S h0 vals 4).2⟩,
    ⟨sh 256 64, gcol S (cand S h0 vals 5).2⟩, ⟨sh 256 64, gcol S (cand S h0 vals 6).2⟩, ⟨sh 256 64, gcol S (cand S h0 vals 7).2⟩] S.c8

/-! ## One extraction -/

/-- The greatest score of each row among `n` columns. -/
def rmax {n : Nat} (hr : (sh 256 n).Reduces [1] s256) (c : FVec F (sh 256 n) .f32) : FVec F s256 .f32 :=
  multiReduction .maximumf [1] s256 c 0xFF800000#32 hr (.inl rfl) rfl

/-- The least column number holding the greatest score; `big` elsewhere. -/
def rarg {n : Nat} (hr : (sh 256 n).Reduces [1] s256) (hc : s256.ShapeCasts (sh 256 1)) (hb : (sh 256 1).Broadcasts (sh 256 n))
    (big : BitVec 32) (g : IVec (sh 256 n) 32) (c : FVec F (sh 256 n) .f32) : IVec s256 32 :=
  multiReductionI .minsi [1] s256
    (select (cmpf .oeq c (broadcastTo (sh 256 n) (shapeCast (sh 256 1) (rmax hr c) hc) hb)) g (broadcast (sh 256 n) big))
    2147483647#32 hr rfl

/-- The scores with the extracted column marked taken. -/
def rdrop {n : Nat} (hr : (sh 256 n).Reduces [1] s256) (hc : s256.ShapeCasts (sh 256 1)) (hb : (sh 256 1).Broadcasts (sh 256 n))
    (big : BitVec 32) (g : IVec (sh 256 n) 32) (c : FVec F (sh 256 n) .f32) : FVec F (sh 256 n) .f32 :=
  select (cmpi .eq g (broadcastTo (sh 256 n) (shapeCast (sh 256 1) (rarg hr hc hb big g c) hc) hb)) (neg 256 n) c

/-- The column numbers of an accumulator. -/
abbrev colk : IVec (sh 256 64) 32 := iota .tc (sh 256 64) 32 [1] S.io64

/-- Column `k` of the accumulator set to the column `x`; `lk` numbers its columns. -/
def putcol {α : Type} (lk : IVec (sh 256 64) 32) (k : BitVec 32) (x : (sh 256 1).Idx → α) (acc : (sh 256 64).Idx → α) : (sh 256 64).Idx → α :=
  select (cmpi .eq lk (broadcast (sh 256 64) k))
    (broadcastTo (sh 256 64) (shapeCast (sh 256 1) x S.cast11) S.bc64) acc

/-- The state of the extraction: what is left, and the two accumulators. -/
structure Ext (F : FTy → Type) (n : Nat) where
  c : FVec F (sh 256 n) .f32
  s : FVec F (sh 256 64) .f32
  i : IVec (sh 256 64) 32

/-- One extraction into column `k`. -/
def extract {n : Nat} (hr : (sh 256 n).Reduces [1] s256) (hb : (sh 256 1).Broadcasts (sh 256 n)) (big : BitVec 32)
    (g : IVec (sh 256 n) 32) (lk : IVec (sh 256 64) 32) (k : BitVec 32) (e : Ext F n) : Ext F n where
  c := rdrop hr S.cast1 hb big g e.c
  s := putcol S lk k (shapeCast (sh 256 1) (rmax hr e.c) S.cast1) e.s
  i := putcol S lk k (shapeCast (sh 256 1) (rarg hr S.cast1 hb big g e.c) S.cast1) e.i

/-- `n` extractions in a row, the first into column `25 · j`. -/
def extracts (g : IVec (sh 256 512) 32) (j : BitVec 32) (e : Ext F 512) : Nat → Ext F 512
  | 0 => e
  | u + 1 => extract S S.red512 S.bc512 1073741824#32 g (colk S) (Scalar.addi (Scalar.muli j 25#32) (BitVec.ofNat 32 u)) (extracts g j e u)

/-- The scores as they are put out: those of masked columns are minus infinity. -/
def outS (a : FVec F (sh 256 64) .f32) : FVec F (sh 256 50) .f32 :=
  select (cmpf .olt (extractStridedSlice (sh 256 50) ![0, 0] a S.sl50) (broadcast (sh 256 50) (Scalar.ofBits .f32 0xEFA18F08#32)))
    (broadcast (sh 256 50) (Scalar.ofBits .f32 0xFF800000#32)) (extractStridedSlice (sh 256 50) ![0, 0] a S.sl50)

/-- The columns as they are put out. -/
def outI (a : IVec (sh 256 64) 32) : IVec (sh 256 50) 32 := extractStridedSlice (sh 256 50) ![0, 0] a S.sl50

/-- One where some entry of `c` is the mark `n`, zero where none is. -/
def peak (c n : FVec F (sh 256 64) .f32) : FVec F ⟨3, ![1, 1, 1]⟩ .f32 :=
  shapeCast ⟨3, ![1, 1, 1]⟩ (multiReduction .maximumf [1, 2] ⟨1, ![1]⟩
      (shapeCast ⟨3, ![1, 256, 64]⟩ (select (cmpf .oeq c n) (broadcast (sh 256 64) (Scalar.ofBits (F := F) .f32 0x3F800000#32))
        (broadcast (sh 256 64) (Scalar.ofBits .f32 0x00000000#32))) S.cast3)
      0xFF800000#32 S.red3 (.inl rfl) rfl) S.cast4

/-- Whether that is one. -/
def badOf (p : FVec F ⟨3, ![1, 1, 1]⟩ .f32) : BitVec 1 :=
  Scalar.cmpi .ne (Scalar.extui (Scalar.cmpf (F := F) (φ := .f32) .ogt (extractAt ![0, 0, 0] p S.inp)
    (Scalar.ofBits .f32 0x00000000#32)) : BitVec 32) 0#32

/-! ## The body -/

/-- The facts about the shapes at width `W`. -/
structure Wide (W vc : Nat) : Prop where
  h0 : 0 < vc
  sl : ∀ v < vc, (sh 256 W).Slices ![0, 128 * v] (sh 256 128)
  cast₁ : (sh 1024 1024).ShapeCasts (sh 1024 1024)
  cast₂ : (sh 1 1024).ShapeCasts (sh 1 1024)
  bc₃ : (sh 1 1024).Broadcasts (sh 256 1024)
  cast₄ : (sh 1024 W).ShapeCasts (sh 1024 W)
  io₁ : (sh 256 W).Iotas .tc 32 [1]
  io₀ : (sh 256 W).Iotas .tc 32 [0]
  castW : (sh 256 W).ShapeCasts (sh 256 W)
  red : (sh 256 W).Reduces [1] s256
  bc : (sh 256 1).Broadcasts (sh 256 W)
  pW : 0 < (sh 256 W).numel
  pM : 0 < (sh 1024 W).numel

variable {nD : Nat} {τ : Topo} {sig : RefSig} {Λ : Labels}

/-- The bounds of the two extraction loops. -/
@[reducible] def loop (n : BitVec 32) : Scf.Loop 32 := ⟨0#32, Scalar.addi 0#32 n, 1#32⟩

/-- The whole of a matrix lies in it. -/
theorem inb (r c : Nat) : ∀ x, (![0, 0] : Fin 2 → Nat) x + (sh r c).size x ≤ (sh r c).size x := by
  intro x; fin_cases x <;> exact (Nat.zero_add _).le

/-- Load all of a matrix. -/
abbrev loadAll {r c : Nat} {e : EltTy} (a : Memref sig .tc .vmem (sh r c) e) (h : 0 < (sh r c).numel) :
    Prog (TpuEff nD τ sig (Elt F) Λ .tc) (Vec F (sh r c) e) :=
  Prog.lift (.load a (Rect.unit (s := sh r c) ![0, 0] (sh r c).size (inb r c)).toLoadRect (View.loadsAt_vmem h))

/-- Store all of a matrix of 32-bit elements. -/
abbrev storeAll {r c : Nat} {e : EltTy} (a : Memref sig .tc .vmem (sh r c) e) (h : 0 < (sh r c).numel) (he : e.bits = 32)
    (v : Vec F (sh r c) e) : Prog (TpuEff nD τ sig (Elt F) Λ .tc) PUnit :=
  Prog.lift (.store a (Rect.unit (s := sh r c) ![0, 0] (sh r c).size (inb r c)) v Finset.univ
    (View.stores_vmem_bits_univ h he) (.inl rfl))

/-- Put out the accumulators. -/
def emit (p50 : 0 < (sh 256 50).numel) (arg5 : Memref sig .tc .vmem (sh 256 50) .f32) (arg6 : Memref sig .tc .vmem (sh 256 50) .i32)
    (a : FVec F (sh 256 64) .f32 × IVec (sh 256 64) 32) : Prog (TpuEff nD τ sig (Elt F) Λ .tc) PUnit := do
  let _ ← loadAll (F := F) arg5 p50
  storeAll arg5 p50 rfl (outS S a.1)
  let _ ← loadAll (F := F) arg6 p50
  storeAll arg6 p50 rfl (outI S a.2)

/-- The accumulators before the first extraction. -/
def acc0 : FVec F (sh 256 64) .f32 × IVec (sh 256 64) 32 :=
  (broadcast (sh 256 64) (Scalar.ofBits .f32 0x00000000#32), broadcast (sh 256 64) 0#32)

/-- One trip of the extraction among the candidates: 25 extractions. -/
def fastTrip (p512 : 0 < (sh 256 512).numel) (arg8 : Memref sig .tc .vmem (sh 256 512) .f32)
    (arg9 : Memref sig .tc .vmem (sh 256 512) .i32) (j : BitVec 32) (a : FVec F (sh 256 64) .f32 × IVec (sh 256 64) 32) :
    Prog (TpuEff nD τ sig (Elt F) Λ .tc) (FVec F (sh 256 64) .f32 × IVec (sh 256 64) 32) := do
  let c ← loadAll (F := F) arg8 p512
  let g ← loadAll (F := F) arg9 p512
  let _ ← loadAll (F := F) arg8 p512
  storeAll arg8 p512 rfl (shapeCast (sh 256 512) (extracts S g j ⟨c, a.1, a.2⟩ 25).c S.cast512)
  pure ((extracts S g j ⟨c, a.1, a.2⟩ 25).s, (extracts S g j ⟨c, a.1, a.2⟩ 25).i)

/-- One trip of the extraction among all the scores. -/
def fullTrip {W vc : Nat} (H : Wide W vc) (arg7 : Memref sig .tc .vmem (sh 256 W) .f32)
    (ci : IVec (sh 256 W) 32) (lk : IVec (sh 256 64) 32) (k : BitVec 32)
    (a : FVec F (sh 256 64) .f32 × IVec (sh 256 64) 32) :
    Prog (TpuEff nD τ sig (Elt F) Λ .tc) (FVec F (sh 256 64) .f32 × IVec (sh 256 64) 32) := do
  let c ← loadAll (F := F) arg7 H.pW
  let _ ← loadAll (F := F) arg7 H.pW
  storeAll arg7 H.pW rfl (shapeCast (sh 256 W) (extract S H.red H.bc (BitVec.ofNat 32 W) ci lk k ⟨c, a.1, a.2⟩).c H.castW)
  pure ((extract S H.red H.bc (BitVec.ofNat 32 W) ci lk k ⟨c, a.1, a.2⟩).s,
    (extract S H.red H.bc (BitVec.ofNat 32 W) ci lk k ⟨c, a.1, a.2⟩).i)

/-- The facts about the sizes of what the body loads and stores, whatever the width, and about its loops. -/
structure Sizes : Prop where
  p1 : 0 < (sh 256 1024).numel
  p2 : 0 < (sh 1024 1024).numel
  p3 : 0 < (sh 1 1024).numel
  p50 : 0 < (sh 256 50).numel
  p512 : 0 < (sh 256 512).numel
  p64 : 0 < (sh 256 64).numel
  in448 : ∀ x, (![0, 448] : Fin 2 → Nat) x + (sh 256 64).size x ≤ (sh 256 512).size x
  ok2 : (loop 2#32).OK
  ok50 : (loop 50#32).OK

section Body

variable {W vc : Nat} (H : Wide W vc) (Z : Sizes) (base : BitVec 32)
    (d₁ : DotDims (sh 256 1024) (sh 1024 1024) (sh 256 1024)) (d₂ : DotDims (sh 256 1024) (sh 1024 W) (sh 256 W))
    (arg1 : Memref sig .tc .vmem (sh 256 1024) .f32) (arg2 : Memref sig .tc .vmem (sh 1024 1024) .f32)
    (arg3 : Memref sig .tc .vmem (sh 1 1024) .f32) (arg4 : Memref sig .tc .vmem (sh 1024 W) .f32)
    (arg5 : Memref sig .tc .vmem (sh 256 50) .f32) (arg6 : Memref sig .tc .vmem (sh 256 50) .i32)
    (arg7 : Memref sig .tc .vmem (sh 256 W) .f32) (arg8 : Memref sig .tc .vmem (sh 256 512) .f32)
    (arg9 : Memref sig .tc .vmem (sh 256 512) .i32)

/-- The body's first part: the scores and the candidates, into the scratch buffers; then `rest`. -/
def head {β : Type} (rest : Prog (TpuEff nD τ sig (Elt F) Λ .tc) β) : Prog (TpuEff nD τ sig (Elt F) Λ .tc) β := do
  let m ← loadAll (F := F) arg1 Z.p1
  let wt ← loadAll (F := F) arg2 Z.p2
  let b ← loadAll (F := F) arg3 Z.p3
  let mt ← loadAll (F := F) arg4 H.pM
  let _ ← loadAll (F := F) arg7 H.pW
  storeAll arg7 H.pW rfl (shapeCast (sh 256 W) (scores W base d₁ d₂ H.cast₁ H.cast₂ H.bc₃ H.cast₄ H.io₁ H.io₀ m wt b mt) H.castW)
  let _ ← loadAll (F := F) arg8 Z.p512
  storeAll arg8 Z.p512 rfl (shapeCast (sh 256 512) (candS S H.h0 (groups H.sl (scores W base d₁ d₂ H.cast₁ H.cast₂ H.bc₃ H.cast₄ H.io₁ H.io₀ m wt b mt))) S.cast512)
  let _ ← loadAll (F := F) arg9 Z.p512
  storeAll arg9 Z.p512 rfl (shapeCast (sh 256 512) (candI S H.h0 (groups H.sl (scores W base d₁ d₂ H.cast₁ H.cast₂ H.bc₃ H.cast₄ H.io₁ H.io₀ m wt b mt))) S.cast512)
  rest

/-- The extraction among the candidates, 50 times. -/
def fast : Prog (TpuEff nD τ sig (Elt F) Λ .tc) (FVec F (sh 256 64) .f32 × IVec (sh 256 64) 32) :=
  Scf.Loop.for (loop 2#32) Z.ok2 acc0 fun j a => fastTrip S Z.p512 arg8 arg9 (Scf.iv 0#32 1#32 j) a

/-- The last round's candidates as the extraction left them. -/
def lastCand : Prog (TpuEff nD τ sig (Elt F) Λ .tc) (Vec F (sh 256 64) .f32) :=
  Prog.lift (.load arg8 (Rect.unit (s := sh 256 512) ![0, 448] (sh 256 64).size Z.in448).toLoadRect (View.loadsAt_vmem Z.p64))

/-- The extraction among all the scores, where `p` says some class's last candidate was taken. -/
def retry (ci : IVec (sh 256 W) 32) (lk : IVec (sh 256 64) 32) (p : FVec F ⟨3, ![1, 1, 1]⟩ .f32) : Prog (TpuEff nD τ sig (Elt F) Λ .tc) PUnit := do
  if badOf S p = 1#1 then do
    let a ← Scf.Loop.for (loop 50#32) Z.ok50 acc0 fun k a => fullTrip S H arg7 ci lk (Scf.iv 0#32 1#32 k) a
    emit S Z.p50 arg5 arg6 a
  else pure ⟨⟩
  pure ⟨⟩

/-- The body's last part. -/
def tail (a : FVec F (sh 256 64) .f32 × IVec (sh 256 64) 32) : Prog (TpuEff nD τ sig (Elt F) Λ .tc) PUnit := do
  emit S Z.p50 arg5 arg6 a
  let c ← lastCand Z arg8
  retry S H Z arg5 arg6 arg7 (colI W H.io₁) (colk S) (peak S c (neg 256 64))

/-- The body of a region at width `W`, for the block of rows number `base`. -/
def body : Prog (TpuEff nD τ sig (Elt F) Λ .tc) PUnit :=
  head S H Z base d₁ d₂ arg1 arg2 arg3 arg4 arg7 arg8 arg9 (fast S Z arg8 arg9 >>= tail S H Z arg5 arg6 arg7 arg8)

/-- The body cut in two somewhere after the extraction. -/
theorem body_cut {β : Type} (f : FVec F (sh 256 64) .f32 × IVec (sh 256 64) 32 → Prog (TpuEff nD τ sig (Elt F) Λ .tc) β)
    (g : β → Prog (TpuEff nD τ sig (Elt F) Λ .tc) PUnit) (h : ∀ a, f a >>= g = tail S H Z arg5 arg6 arg7 arg8 a) :
    (head S H Z base d₁ d₂ arg1 arg2 arg3 arg4 arg7 arg8 arg9 (fast S Z arg8 arg9 >>= f) >>= g) =
      body (F := F) S H Z base d₁ d₂ arg1 arg2 arg3 arg4 arg5 arg6 arg7 arg8 arg9 := by
  have e : (head S H Z base d₁ d₂ arg1 arg2 arg3 arg4 arg7 arg8 arg9 (fast S Z arg8 arg9 >>= f) >>= g) =
      head S H Z base d₁ d₂ arg1 arg2 arg3 arg4 arg7 arg8 arg9 ((fast S Z arg8 arg9 >>= f) >>= g) := rfl
  rw [e, Prog.bind_assoc, body, funext h]

/-- The body cut in three after the extraction. -/
theorem body_cut₃ {α β : Type} (f : FVec F (sh 256 64) .f32 × IVec (sh 256 64) 32 → Prog (TpuEff nD τ sig (Elt F) Λ .tc) α)
    (g : α → Prog (TpuEff nD τ sig (Elt F) Λ .tc) β) (k : β → Prog (TpuEff nD τ sig (Elt F) Λ .tc) PUnit)
    (h : ∀ a, (f a >>= g) >>= k = tail S H Z arg5 arg6 arg7 arg8 a) :
    ((head S H Z base d₁ d₂ arg1 arg2 arg3 arg4 arg7 arg8 arg9 (fast S Z arg8 arg9 >>= f) >>= g) >>= k) =
      body (F := F) S H Z base d₁ d₂ arg1 arg2 arg3 arg4 arg5 arg6 arg7 arg8 arg9 := by
  rw [Prog.bind_assoc]
  exact body_cut S H Z base d₁ d₂ arg1 arg2 arg3 arg4 arg5 arg6 arg7 arg8 arg9 f _ fun a => by rw [← Prog.bind_assoc, h]

end Body

end Cert.Span

end
-- ==== Proof.Bodies.lean ====
/- The four regions' bodies of the program read at `Ideal` are one body at four widths. -/
module

public import proofs.«01_k».proof.Proof.Span
public import proofs.«01_k».proof.Proof.Gen.KernelIdeal

@[expose] public section

set_option maxRecDepth 65536

noncomputable section

namespace Cert.KernelIdeal

open Idealize.ShloMosaic Idealize.SL.Sem

variable {F : FTy → Type} [FloatOps F] [Facts]
open Facts₀ Facts

/-- The shape facts of the candidates' computation. -/
theorem shapes : Span.Shapes where
  io := iota_S256x128_d1_w32
  sl := ⟨slices_S256x128_o0_0_S256x64, slices_S256x128_o0_64_S256x64⟩
  cc := concatenates_S256x64_S256x64_S256x128_d1
  io64 := iota_S256x64_d1_w32
  c8 := concatenates_S256x64_S256x64_S256x64_S256x64_S256x64_S256x64_S256x64_S256x64_S256x512_d1
  cast512 := shapeCasts_S256x512_S256x512
  red512 := reduces_S256x512_S256
  cast1 := shapeCasts_S256_S256x1
  bc512 := broadcasts_S256x1_S256x512
  cast11 := shapeCasts_S256x1_S256x1
  bc64 := broadcasts_S256x1_S256x64
  sl50 := slices_S256x64_o0_0_S256x50
  cast3 := shapeCasts_S256x64_S1x256x64
  red3 := reduces_S1x256x64_S1
  cast4 := shapeCasts_S1_S1x1x1
  inp := inpos_S1x1x1_p0_0_0

/-- The sizes of what the bodies load and store. -/
theorem sizes : Span.Sizes where
  p1 := h_S256x1024
  p2 := h_S1024x1024
  p3 := h_S1x1024
  p50 := h_S256x50
  p512 := h_S256x512
  p64 := h_S256x64
  in448 := inb_S256x512_S256x64_0_448
  ok2 := k0_t1_ok
  ok50 := k0_t2_ok

/-- The shape facts at width 1024. -/
theorem wide0 : Span.Wide 1024 8 where
  h0 := by decide
  sl := by decide
  cast₁ := shapeCasts_S1024x1024_S1024x1024
  cast₂ := shapeCasts_S1x1024_S1x1024
  bc₃ := broadcasts_S1x1024_S256x1024
  cast₄ := shapeCasts_S1024x1024_S1024x1024
  io₁ := iota_S256x1024_d1_w32
  io₀ := iota_S256x1024_d0_w32
  castW := shapeCasts_S256x1024_S256x1024
  red := reduces_S256x1024_S256
  bc := broadcasts_S256x1_S256x1024
  pW := h_S256x1024
  pM := h_S1024x1024

/-- Region 0's body. -/
theorem body0 (i : grid0.Coords) (arg1 : Memref sig .tc .vmem S256x1024 .f32) (harg1 : arg1.IsWhole)
    (arg2 : Memref sig .tc .vmem S1024x1024 .f32) (harg2 : arg2.IsWhole) (arg3 : Memref sig .tc .vmem S1x1024 .f32)
    (harg3 : arg3.IsWhole) (arg4 : Memref sig .tc .vmem S1024x1024 .f32) (harg4 : arg4.IsWhole)
    (arg5 : Memref sig .tc .vmem S256x50 .f32) (harg5 : arg5.IsWhole) (arg6 : Memref sig .tc .vmem S256x50 .i32)
    (harg6 : arg6.IsWhole) (arg7 : Memref sig .tc .vmem S256x1024 .f32) (harg7 : arg7.IsWhole)
    (arg8 : Memref sig .tc .vmem S256x512 .f32) (harg8 : arg8.IsWhole) (arg9 : Memref sig .tc .vmem S256x512 .i32)
    (harg9 : arg9.IsWhole) :
    cc0_body (F := F) i arg1 harg1 arg2 harg2 arg3 harg3 arg4 harg4 arg5 harg5 arg6 harg6 arg7 harg7 arg8 harg8 arg9 harg9
      = Span.body shapes wide0 sizes (Scalar.addi 0#32 (BitVec.ofNat 32 (i 0).val)) dot_S256x1024_S1024x1024_S256x1024_1_0_0_1_n_n dot_S256x1024_S1024x1024_S256x1024_1_0_0_1_n_n
          arg1 arg2 arg3 arg4 arg5 arg6 arg7 arg8 arg9 := by
  rw [← Span.body_cut shapes wide0 sizes _ _ _ arg1 arg2 arg3 arg4 arg5 arg6 arg7 arg8 arg9
    (fun a => do
      Span.emit shapes sizes.p50 arg5 arg6 a
      let c ← Span.lastCand sizes arg8
      (pure ⟨c, Span.neg 256 64⟩ : Prog (TpuEff nD τ sig (Elt F) Λ₀ .tc) (Σ' (_ : Vec F S256x64 .f32), FVec F S256x64 .f32)))
    (fun p => Span.retry shapes wide0 sizes arg5 arg6 arg7 (Span.colI _ wide0.io₁) (Span.colk shapes) (Span.peak shapes p.1 p.2)) fun a => rfl]
  sl_kernel_rfl

/-- The shape facts at width 2048. -/
theorem wide1 : Span.Wide 2048 16 where
  h0 := by decide
  sl := by decide
  cast₁ := shapeCasts_S1024x1024_S1024x1024
  cast₂ := shapeCasts_S1x1024_S1x1024
  bc₃ := broadcasts_S1x1024_S256x1024
  cast₄ := shapeCasts_S1024x2048_S1024x2048
  io₁ := iota_S256x2048_d1_w32
  io₀ := iota_S256x2048_d0_w32
  castW := shapeCasts_S256x2048_S256x2048
  red := reduces_S256x2048_S256
  bc := broadcasts_S256x1_S256x2048
  pW := h_S256x2048
  pM := h_S1024x2048

/-- Region 1's body. -/
theorem body1 (i : grid1.Coords) (arg1 : Memref sig .tc .vmem S256x1024 .f32) (harg1 : arg1.IsWhole)
    (arg2 : Memref sig .tc .vmem S1024x1024 .f32) (harg2 : arg2.IsWhole) (arg3 : Memref sig .tc .vmem S1x1024 .f32)
    (harg3 : arg3.IsWhole) (arg4 : Memref sig .tc .vmem S1024x2048 .f32) (harg4 : arg4.IsWhole)
    (arg5 : Memref sig .tc .vmem S256x50 .f32) (harg5 : arg5.IsWhole) (arg6 : Memref sig .tc .vmem S256x50 .i32)
    (harg6 : arg6.IsWhole) (arg7 : Memref sig .tc .vmem S256x2048 .f32) (harg7 : arg7.IsWhole)
    (arg8 : Memref sig .tc .vmem S256x512 .f32) (harg8 : arg8.IsWhole) (arg9 : Memref sig .tc .vmem S256x512 .i32)
    (harg9 : arg9.IsWhole) :
    cc1_body (F := F) i arg1 harg1 arg2 harg2 arg3 harg3 arg4 harg4 arg5 harg5 arg6 harg6 arg7 harg7 arg8 harg8 arg9 harg9
      = Span.body shapes wide1 sizes (Scalar.addi 4#32 (BitVec.ofNat 32 (i 0).val)) dot_S256x1024_S1024x1024_S256x1024_1_0_0_1_n_n dot_S256x1024_S1024x2048_S256x2048_1_0_0_1_n_n
          arg1 arg2 arg3 arg4 arg5 arg6 arg7 arg8 arg9 := by
  rw [← Span.body_cut shapes wide1 sizes _ _ _ arg1 arg2 arg3 arg4 arg5 arg6 arg7 arg8 arg9
    (fun a => Span.emit shapes sizes.p50 arg5 arg6 a)
    (fun _ => do
      let c ← Span.lastCand sizes arg8
      Span.retry shapes wide1 sizes arg5 arg6 arg7 (Span.colI _ wide1.io₁) (Span.colk shapes) (Span.peak shapes c (Span.neg 256 64))) fun a => rfl]
  sl_kernel_rfl

/-- The shape facts at width 3072. -/
theorem wide2 : Span.Wide 3072 24 where
  h0 := by decide
  sl := by decide
  cast₁ := shapeCasts_S1024x1024_S1024x1024
  cast₂ := shapeCasts_S1x1024_S1x1024
  bc₃ := broadcasts_S1x1024_S256x1024
  cast₄ := shapeCasts_S1024x3072_S1024x3072
  io₁ := iota_S256x3072_d1_w32
  io₀ := iota_S256x3072_d0_w32
  castW := shapeCasts_S256x3072_S256x3072
  red := reduces_S256x3072_S256
  bc := broadcasts_S256x1_S256x3072
  pW := h_S256x3072
  pM := h_S1024x3072

/-- Region 2's body. -/
theorem body2 (i : grid2.Coords) (arg1 : Memref sig .tc .vmem S256x1024 .f32) (harg1 : arg1.IsWhole)
    (arg2 : Memref sig .tc .vmem S1024x1024 .f32) (harg2 : arg2.IsWhole) (arg3 : Memref sig .tc .vmem S1x1024 .f32)
    (harg3 : arg3.IsWhole) (arg4 : Memref sig .tc .vmem S1024x3072 .f32) (harg4 : arg4.IsWhole)
    (arg5 : Memref sig .tc .vmem S256x50 .f32) (harg5 : arg5.IsWhole) (arg6 : Memref sig .tc .vmem S256x50 .i32)
    (harg6 : arg6.IsWhole) (arg7 : Memref sig .tc .vmem S256x3072 .f32) (harg7 : arg7.IsWhole)
    (arg8 : Memref sig .tc .vmem S256x512 .f32) (harg8 : arg8.IsWhole) (arg9 : Memref sig .tc .vmem S256x512 .i32)
    (harg9 : arg9.IsWhole) :
    cc2_body (F := F) i arg1 harg1 arg2 harg2 arg3 harg3 arg4 harg4 arg5 harg5 arg6 harg6 arg7 harg7 arg8 harg8 arg9 harg9
      = Span.body shapes wide2 sizes (Scalar.addi 8#32 (BitVec.ofNat 32 (i 0).val)) dot_S256x1024_S1024x1024_S256x1024_1_0_0_1_n_n dot_S256x1024_S1024x3072_S256x3072_1_0_0_1_n_n
          arg1 arg2 arg3 arg4 arg5 arg6 arg7 arg8 arg9 := by
  rw [← Span.body_cut₃ shapes wide2 sizes _ _ _ arg1 arg2 arg3 arg4 arg5 arg6 arg7 arg8 arg9
    (fun a => do
      let _ ← Span.loadAll (F := F) arg5 sizes.p50
      Span.storeAll arg5 sizes.p50 rfl (Span.outS shapes a.1)
      (pure (Span.outI shapes a.2) : Prog (TpuEff nD τ sig (Elt F) Λ₀ .tc) (IVec S256x50 32)))
    (fun v => do
      let _ ← Span.loadAll (F := F) arg6 sizes.p50
      Span.storeAll arg6 sizes.p50 rfl v
      let c ← Span.lastCand sizes arg8
      (pure ⟨Span.colI _ wide2.io₁, Span.colk shapes, Span.peak shapes c (Span.neg 256 64)⟩ :
        Prog (TpuEff nD τ sig (Elt F) Λ₀ .tc) (Σ' (_ : IVec S256x3072 32) (_ : IVec S256x64 32), FVec F S1x1x1 .f32)))
    (fun p => Span.retry shapes wide2 sizes arg5 arg6 arg7 p.1 p.2.1 p.2.2) fun a => rfl]
  sl_kernel_rfl

/-- The shape facts at width 4096. -/
theorem wide3 : Span.Wide 4096 32 where
  h0 := by decide
  sl := by decide
  cast₁ := shapeCasts_S1024x1024_S1024x1024
  cast₂ := shapeCasts_S1x1024_S1x1024
  bc₃ := broadcasts_S1x1024_S256x1024
  cast₄ := shapeCasts_S1024x4096_S1024x4096
  io₁ := iota_S256x4096_d1_w32
  io₀ := iota_S256x4096_d0_w32
  castW := shapeCasts_S256x4096_S256x4096
  red := reduces_S256x4096_S256
  bc := broadcasts_S256x1_S256x4096
  pW := h_S256x4096
  pM := h_S1024x4096

/-- Region 3's body. -/
theorem body3 (i : grid3.Coords) (arg1 : Memref sig .tc .vmem S256x1024 .f32) (harg1 : arg1.IsWhole)
    (arg2 : Memref sig .tc .vmem S1024x1024 .f32) (harg2 : arg2.IsWhole) (arg3 : Memref sig .tc .vmem S1x1024 .f32)
    (harg3 : arg3.IsWhole) (arg4 : Memref sig .tc .vmem S1024x4096 .f32) (harg4 : arg4.IsWhole)
    (arg5 : Memref sig .tc .vmem S256x50 .f32) (harg5 : arg5.IsWhole) (arg6 : Memref sig .tc .vmem S256x50 .i32)
    (harg6 : arg6.IsWhole) (arg7 : Memref sig .tc .vmem S256x4096 .f32) (harg7 : arg7.IsWhole)
    (arg8 : Memref sig .tc .vmem S256x512 .f32) (harg8 : arg8.IsWhole) (arg9 : Memref sig .tc .vmem S256x512 .i32)
    (harg9 : arg9.IsWhole) :
    cc3_body (F := F) i arg1 harg1 arg2 harg2 arg3 harg3 arg4 harg4 arg5 harg5 arg6 harg6 arg7 harg7 arg8 harg8 arg9 harg9
      = Span.body shapes wide3 sizes (Scalar.addi 12#32 (BitVec.ofNat 32 (i 0).val)) dot_S256x1024_S1024x1024_S256x1024_1_0_0_1_n_n dot_S256x1024_S1024x4096_S256x4096_1_0_0_1_n_n
          arg1 arg2 arg3 arg4 arg5 arg6 arg7 arg8 arg9 := by
  rw [← Span.body_cut₃ shapes wide3 sizes _ _ _ arg1 arg2 arg3 arg4 arg5 arg6 arg7 arg8 arg9
    (fun a => (pure ⟨a.2, Span.outS shapes a.1⟩ :
      Prog (TpuEff nD τ sig (Elt F) Λ₀ .tc) (Σ' (_ : IVec S256x64 32), FVec F S256x50 .f32)))
    (fun p => do
      let _ ← Span.loadAll (F := F) arg5 sizes.p50
      Span.storeAll arg5 sizes.p50 rfl p.2
      (pure ⟨Span.colI _ wide3.io₁, Span.colk shapes, Span.outI shapes p.1⟩ :
        Prog (TpuEff nD τ sig (Elt F) Λ₀ .tc) (Σ' (_ : IVec S256x4096 32) (_ : IVec S256x64 32), IVec S256x50 32)))
    (fun p => do
      let _ ← Span.loadAll (F := F) arg6 sizes.p50
      Span.storeAll arg6 sizes.p50 rfl p.2.2
      let c ← Span.lastCand sizes arg8
      Span.retry shapes wide3 sizes arg5 arg6 arg7 p.1 p.2.1 (Span.peak shapes c (Span.neg 256 64))) fun a => rfl]
  sl_kernel_rfl

end Cert.KernelIdeal

end
-- ==== Proof.Triple.lean ====
/- What the region body does to the memory it is given: a load and a store of a whole matrix, the two extraction loops
   at their invariants, and the body from its operands to its results (`wp_body`). -/
module

public import proofs.«01_k».proof.Proof.Span
public import Idealize.ShloMosaic.Lib.Memref
public import Idealize.ShloMosaic.Lib.VecWindow
public import Idealize.ShloMosaic.Lib.Pipeline.Value

@[expose] public section

noncomputable section

namespace Cert.Span

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels}
variable {Ix : Type} [DecidableEq Ix] {Name : Type} [DecidableEq Name] {U : Type} [URA U] {Lvl : Type} [Preorder Lvl]
variable {defs : Defs nD τ sig (Elt F) Λ} {𝒱 : Variants} {c : Dev nD} {E : Set Name} {α : Type}

local notation "𝕄" => MT nD τ sig Ix (Elt F) Name U Lvl

/-! ## Loads and stores -/

section Access

variable {r k : Nat} {e : EltTy} (a : Memref sig .tc .vmem (sh r k) e)

/-- The matrix `a` of core `c` owned, holding `X`. -/
abbrev has (c : Dev nD) (X : Vec F (sh r k) e) : sProp 𝕄 := owns (c : Thread nD τ) a fullShare X

/-- A load of the whole of a matrix yields what it holds. -/
theorem wp_loadAll (h : 0 < (sh r k).numel) (X : Vec F (sh r k) e) (f : Vec F (sh r k) e → Prog (TpuEff nD τ sig (Elt F) Λ .tc) α)
    (Q : α → sProp 𝕄) :
    has a c X ⊢ iprop((has a c X -∗ wp frame (wpE defs 𝒱 (c : Thread nD τ) none) E (f X) Q)
      -∗ wp frame (wpE defs 𝒱 (c : Thread nD τ) none) E (loadAll (F := F) a h >>= f) Q) := by
  unfold has owns
  rw [show (loadAll (F := F) a h >>= f : Prog (TpuEff nD τ sig (Elt F) Λ .tc) α) =
    .op (.load a (Rect.unit (s := sh r k) ![0, 0] (sh r k).size (inb r k)).toLoadRect (View.loadsAt_vmem h)) f from rfl]
  iintro ⟨%g, %hg, H⟩ Hk
  iapply (wp_load (defs := defs) 𝒱 (c : Thread nD τ) none E (α := α) (Q := Q) (m := a) (S := a.view.set) (f := g)
    (r := (Rect.unit (s := sh r k) ![0, 0] (sh r k).size (inb r k)).toLoadRect) (a.view.setOn_subset_set _)) $$ H
  iintro H
  rw [View.readAt_full, hg]
  iapply Hk
  iexists g
  isplitr
  · ipureintro; exact hg
  iexact H

/-- A store of the whole of a matrix leaves what was stored. -/
theorem wp_storeAll (h : 0 < (sh r k).numel) (he : e.bits = 32) (X v : Vec F (sh r k) e)
    (f : PUnit → Prog (TpuEff nD τ sig (Elt F) Λ .tc) α) (Q : α → sProp 𝕄) :
    has a c X ⊢ iprop((has a c v -∗ wp frame (wpE defs 𝒱 (c : Thread nD τ) none) E (f ⟨⟩) Q)
      -∗ wp frame (wpE defs 𝒱 (c : Thread nD τ) none) E (storeAll (F := F) a h he v >>= f) Q) := by
  unfold has owns
  rw [show (storeAll (F := F) a h he v >>= f : Prog (TpuEff nD τ sig (Elt F) Λ .tc) α) =
    .op (.store a (Rect.unit (s := sh r k) ![0, 0] (sh r k).size (inb r k)) v Finset.univ
      (View.stores_vmem_bits_univ h he) (.inl rfl)) f from rfl]
  iintro ⟨%g, %hg, H⟩ Hk
  iapply (wp_store (defs := defs) 𝒱 (c : Thread nD τ) none E (α := α) (Q := Q) (m := a)
    (r := Rect.unit (s := sh r k) ![0, 0] (sh r k).size (inb r k)) (S := a.view.set) (f := g)
    (((a.access _).setOn_subset_set _).trans (View.set_slice_subset _ _))) $$ H
  iintro H
  iapply Hk
  iexists _
  isplitr
  swap
  · iexact H
  ipureintro
  exact View.read_writes_full a.view g (inb r k) v []

end Access

/-! ## The parts of the body -/

/-- The state of the extraction among the candidates after `n` trips. -/
def fastN (S : Shapes) (cs : FVec F (sh 256 512) .f32) (gs : IVec (sh 256 512) 32) : Nat → Ext F 512
  | 0 => ⟨cs, (acc0 (F := F)).1, (acc0 (F := F)).2⟩
  | n + 1 => extracts S gs (Scf.iv 0#32 1#32 n) (fastN S cs gs n) 25

/-- The state of the extraction among all the scores after `n` trips. -/
def fullN {W vc : Nat} (S : Shapes) (H : Wide W vc) (s : FVec F (sh 256 W) .f32) : Nat → Ext F W
  | 0 => ⟨s, (acc0 (F := F)).1, (acc0 (F := F)).2⟩
  | n + 1 => extract S H.red H.bc (BitVec.ofNat 32 W) (colI W H.io₁) (colk S) (Scf.iv 0#32 1#32 n) (fullN S H s n)

/-- The last 64 columns of the candidates. -/
def last64 (Z : Sizes) (x : Vec F (sh 256 512) .f32) : Vec F (sh 256 64) .f32 :=
  fun y => x ((Rect.unit (s := sh 256 512) ![0, 448] (sh 256 64).size Z.in448).toLoadRect.idx y)

section Parts

variable {W vc : Nat} (S : Shapes) (H : Wide W vc) (Z : Sizes) (base : BitVec 32)
    (d₁ : DotDims (sh 256 1024) (sh 1024 1024) (sh 256 1024)) (d₂ : DotDims (sh 256 1024) (sh 1024 W) (sh 256 W))
    (arg1 : Memref sig .tc .vmem (sh 256 1024) .f32) (arg2 : Memref sig .tc .vmem (sh 1024 1024) .f32)
    (arg3 : Memref sig .tc .vmem (sh 1 1024) .f32) (arg4 : Memref sig .tc .vmem (sh 1024 W) .f32)
    (arg5 : Memref sig .tc .vmem (sh 256 50) .f32) (arg6 : Memref sig .tc .vmem (sh 256 50) .i32)
    (arg7 : Memref sig .tc .vmem (sh 256 W) .f32) (arg8 : Memref sig .tc .vmem (sh 256 512) .f32)
    (arg9 : Memref sig .tc .vmem (sh 256 512) .i32)

/-- Whether the fast extraction from the scores `s` took a class's last candidate. -/
def again (s : FVec F (sh 256 W) .f32) : Prop :=
  badOf S (peak S (last64 Z (fastN S (candS S H.h0 (groups H.sl s)) (candI S H.h0 (groups H.sl s)) 2).c) (neg 256 64)) = 1#1

open Classical in
/-- The scores a block puts out, from its masked scores. -/
def resS (s : FVec F (sh 256 W) .f32) : FVec F (sh 256 50) .f32 :=
  if again S H Z s then outS S (fullN S H s 50).s
  else outS S (fastN S (candS S H.h0 (groups H.sl s)) (candI S H.h0 (groups H.sl s)) 2).s

open Classical in
/-- The columns a block puts out, from its masked scores. -/
def resI (s : FVec F (sh 256 W) .f32) : IVec (sh 256 50) 32 :=
  if again S H Z s then outI S (fullN S H s 50).i
  else outI S (fastN S (candS S H.h0 (groups H.sl s)) (candI S H.h0 (groups H.sl s)) 2).i

/-- Putting out the accumulators writes the two results. -/
theorem wp_emit (p50 : 0 < (sh 256 50).numel) (a : FVec F (sh 256 64) .f32 × IVec (sh 256 64) 32) (x5 : Vec F (sh 256 50) .f32)
    (x6 : Vec F (sh 256 50) .i32) (f : PUnit → Prog (TpuEff nD τ sig (Elt F) Λ .tc) α) (Q : α → sProp 𝕄) :
    iprop(has arg5 c x5 ∗ has arg6 c x6) ⊢ iprop((iprop(has arg5 c (outS S a.1) ∗ has arg6 c (outI S a.2))
        -∗ wp frame (wpE defs 𝒱 (c : Thread nD τ) none) E (f ⟨⟩) Q)
      -∗ wp frame (wpE defs 𝒱 (c : Thread nD τ) none) E (emit S p50 arg5 arg6 a >>= f) Q) := by
  rw [show (emit S p50 arg5 arg6 a >>= f : Prog (TpuEff nD τ sig (Elt F) Λ .tc) α) =
    (loadAll (F := F) arg5 p50 >>= fun _ => storeAll (F := F) arg5 p50 rfl (outS S a.1) >>= fun _ =>
      loadAll (F := F) arg6 p50 >>= fun _ => storeAll (F := F) arg6 p50 rfl (outI S a.2) >>= f) from rfl]
  iintro ⟨H5, H6⟩ Hk
  iapply (wp_loadAll (c := c) arg5 p50 x5) $$ H5
  iintro H5
  iapply (wp_storeAll (c := c) arg5 p50 rfl x5) $$ H5
  iintro H5
  iapply (wp_loadAll (c := c) arg6 p50 x6) $$ H6
  iintro H6
  iapply (wp_storeAll (c := c) arg6 p50 rfl x6) $$ H6
  iintro H6
  iapply Hk
  isplitl [H5] <;> iassumption

/-- The extraction among the candidates, from candidates `cs` at columns `gs`. -/
theorem wp_fast (cs : FVec F (sh 256 512) .f32) (gs : IVec (sh 256 512) 32)
    (f : FVec F (sh 256 64) .f32 × IVec (sh 256 64) 32 → Prog (TpuEff nD τ sig (Elt F) Λ .tc) α) (Q : α → sProp 𝕄) :
    iprop(has (F := F) arg8 c cs ∗ has (F := F) arg9 c gs)
      ⊢ iprop((iprop(has (F := F) arg8 c (fastN S cs gs 2).c ∗ has (F := F) arg9 c gs)
        -∗ wp frame (wpE defs 𝒱 (c : Thread nD τ) none) E (f ((fastN S cs gs 2).s, (fastN S cs gs 2).i)) Q)
      -∗ wp frame (wpE defs 𝒱 (c : Thread nD τ) none) E (fast S Z arg8 arg9 >>= f) Q) := by
  iintro H Hk
  unfold fast Scf.Loop.for
  iapply (Scf.wp_for_bind frame (wpE defs 𝒱 (c : Thread nD τ) none) E _ _ _ Z.ok2 (acc0 (F := F)) _
    (fun n a => iprop(⌜a = ((fastN S cs gs n).s, (fastN S cs gs n).i)⌝ ∗ has (F := F) arg8 c (fastN S cs gs n).c ∗ has (F := F) arg9 c gs))
    (fun j a => ?_)) $$ [H]
  · unfold fastTrip
    iintro ⟨%ha, H8, H9⟩
    subst ha
    iapply (wp_loadAll (c := c) arg8 Z.p512 _) $$ H8
    iintro H8
    iapply (wp_loadAll (c := c) arg9 Z.p512 _) $$ H9
    iintro H9
    iapply (wp_loadAll (c := c) arg8 Z.p512 _) $$ H8
    iintro H8
    iapply (wp_storeAll (c := c) arg8 Z.p512 rfl _ _) $$ H8
    iintro H8
    rw [Prog.pure_eq_ret, wp_ret]
    imodintro
    isplitr
    · ipureintro; rfl
    rw [shapeCast_self]
    isplitl [H8]; · iexact H8
    iexact H9
  · isplitr
    · ipureintro; rfl
    iexact H
  · iintro %a ⟨%ha, H⟩
    subst ha
    iapply Hk
    iexact H

/-- The extraction among all the scores, where it is wanted. -/
theorem wp_retry (s : FVec F (sh 256 W) .f32) (p : FVec F ⟨3, ![1, 1, 1]⟩ .f32) (x5 : Vec F (sh 256 50) .f32) (x6 : Vec F (sh 256 50) .i32)
    (Q : PUnit → sProp 𝕄) :
    iprop(has (F := F) arg5 c x5 ∗ has (F := F) arg6 c x6 ∗ has (F := F) arg7 c s)
      ⊢ iprop((iprop(∃ y5 y6, ⌜(badOf S p = 1#1 → y5 = outS S (fullN S H s 50).s ∧ y6 = outI S (fullN S H s 50).i)
            ∧ (¬ badOf S p = 1#1 → y5 = x5 ∧ y6 = x6)⌝
          ∗ has (F := F) arg5 c y5 ∗ has (F := F) arg6 c y6 ∗ ∃ x, has (F := F) arg7 c x) -∗ Q ⟨⟩)
        -∗ wp frame (wpE defs 𝒱 (c : Thread nD τ) none) E (retry S H Z arg5 arg6 arg7 (colI W H.io₁) (colk S) p) Q) := by
  unfold retry
  by_cases hb : badOf S p = 1#1
  · rw [if_pos hb]
    iintro ⟨H5, H6, H7⟩ Hk
    unfold Scf.Loop.for
    iapply (Scf.wp_for_bind frame (wpE defs 𝒱 (c : Thread nD τ) none) E _ _ _ Z.ok50 (acc0 (F := F)) _
      (fun n a => iprop(⌜a = ((fullN S H s n).s, (fullN S H s n).i)⌝ ∗ has (F := F) arg7 c (fullN S H s n).c))
      (fun j a => ?_)) $$ [H7]
    · unfold fullTrip
      iintro ⟨%ha, H7⟩
      subst ha
      iapply (wp_loadAll (c := c) arg7 H.pW _) $$ H7
      iintro H7
      iapply (wp_loadAll (c := c) arg7 H.pW _) $$ H7
      iintro H7
      iapply (wp_storeAll (c := c) arg7 H.pW rfl _ _) $$ H7
      iintro H7
      rw [Prog.pure_eq_ret, wp_ret]
      imodintro
      isplitr
      · ipureintro; rfl
      rw [shapeCast_self]
      iexact H7
    · isplitr
      · ipureintro; rfl
      iexact H7
    · iintro %a ⟨%ha, H7⟩
      subst ha
      iapply (wp_emit S (c := c) arg5 arg6 Z.p50 _ x5 x6) $$ [H5 H6]
      · isplitl [H5] <;> iassumption
      iintro ⟨H5, H6⟩
      rw [Prog.pure_eq_ret, wp_ret]
      imodintro
      iapply Hk
      iexists _, _
      isplitr
      · ipureintro; exact ⟨fun _ => ⟨rfl, rfl⟩, fun h => absurd hb h⟩
      isplitl [H5]; · iexact H5
      isplitl [H6]; · iexact H6
      iexists _; iexact H7
  · rw [if_neg hb]
    iintro ⟨H5, H6, H7⟩ Hk
    beta_reduce
    rw [Prog.pure_eq_ret, wp_ret]
    imodintro
    iapply Hk
    iexists _, _
    isplitr
    · ipureintro; exact ⟨fun h => absurd h hb, fun _ => ⟨rfl, rfl⟩⟩
    isplitl [H5]; · iexact H5
    isplitl [H6]; · iexact H6
    iexists _; iexact H7

/-- The load of the last round's candidates. -/
theorem wp_lastCand (X : Vec F (sh 256 512) .f32) (f : Vec F (sh 256 64) .f32 → Prog (TpuEff nD τ sig (Elt F) Λ .tc) α)
    (Q : α → sProp 𝕄) :
    has arg8 c X ⊢ iprop((has arg8 c X -∗ wp frame (wpE defs 𝒱 (c : Thread nD τ) none) E (f (last64 Z X)) Q)
      -∗ wp frame (wpE defs 𝒱 (c : Thread nD τ) none) E (lastCand (F := F) Z arg8 >>= f) Q) := by
  unfold has owns
  rw [show (lastCand (F := F) Z arg8 >>= f : Prog (TpuEff nD τ sig (Elt F) Λ .tc) α) =
    .op (.load arg8 (Rect.unit (s := sh 256 512) ![0, 448] (sh 256 64).size Z.in448).toLoadRect (View.loadsAt_vmem Z.p64)) f from rfl]
  iintro ⟨%g, %hg, H⟩ Hk
  iapply (wp_load (defs := defs) 𝒱 (c : Thread nD τ) none E (α := α) (Q := Q) (m := arg8) (S := arg8.view.set) (f := g)
    (r := (Rect.unit (s := sh 256 512) ![0, 448] (sh 256 64).size Z.in448).toLoadRect) (arg8.view.setOn_subset_set _)) $$ H
  iintro H
  subst hg
  iapply Hk
  iexists g
  isplitr
  · ipureintro; rfl
  iexact H

/-- The body, from its four operands and whatever the results and the scratch buffers hold, leaves the operands as they
    were and the results of the block's masked scores. -/
theorem wp_body (m : Vec F (sh 256 1024) .f32) (wt : Vec F (sh 1024 1024) .f32) (b : Vec F (sh 1 1024) .f32)
    (mt : Vec F (sh 1024 W) .f32) (x5 : Vec F (sh 256 50) .f32) (x6 : Vec F (sh 256 50) .i32) (x7 : Vec F (sh 256 W) .f32)
    (x8 : Vec F (sh 256 512) .f32) (x9 : Vec F (sh 256 512) .i32) (s : FVec F (sh 256 W) .f32)
    (hs : s = scores W base d₁ d₂ H.cast₁ H.cast₂ H.bc₃ H.cast₄ H.io₁ H.io₀ m wt b mt) (Q : PUnit → sProp 𝕄) :
    iprop(has (F := F) arg1 c m ∗ has (F := F) arg2 c wt ∗ has (F := F) arg3 c b ∗ has (F := F) arg4 c mt ∗ has (F := F) arg5 c x5
        ∗ has (F := F) arg6 c x6 ∗ has (F := F) arg7 c x7 ∗ has (F := F) arg8 c x8 ∗ has (F := F) arg9 c x9)
      ⊢ iprop((iprop(has (F := F) arg1 c m ∗ has (F := F) arg2 c wt ∗ has (F := F) arg3 c b ∗ has (F := F) arg4 c mt
          ∗ has (F := F) arg5 c (resS S H Z s) ∗ has (F := F) arg6 c (resI S H Z s)
          ∗ (∃ x, has (F := F) arg7 c x) ∗ (∃ x, has (F := F) arg8 c x) ∗ ∃ x, has (F := F) arg9 c x) -∗ Q ⟨⟩)
        -∗ wp frame (wpE defs 𝒱 (c : Thread nD τ) none) E
          (body (F := F) S H Z base d₁ d₂ arg1 arg2 arg3 arg4 arg5 arg6 arg7 arg8 arg9) Q) := by
  unfold body head
  iintro ⟨H1, H2, H3, H4, H5, H6, H7, H8, H9⟩ Hk
  iapply (wp_loadAll (c := c) arg1 Z.p1 m) $$ H1
  iintro H1
  iapply (wp_loadAll (c := c) arg2 Z.p2 wt) $$ H2
  iintro H2
  iapply (wp_loadAll (c := c) arg3 Z.p3 b) $$ H3
  iintro H3
  iapply (wp_loadAll (c := c) arg4 H.pM mt) $$ H4
  iintro H4
  rw [← hs]
  iapply (wp_loadAll (c := c) arg7 H.pW x7) $$ H7
  iintro H7
  iapply (wp_storeAll (c := c) arg7 H.pW rfl x7) $$ H7
  iintro H7
  iapply (wp_loadAll (c := c) arg8 Z.p512 x8) $$ H8
  iintro H8
  iapply (wp_storeAll (c := c) arg8 Z.p512 rfl x8) $$ H8
  iintro H8
  iapply (wp_loadAll (c := c) arg9 Z.p512 x9) $$ H9
  iintro H9
  iapply (wp_storeAll (c := c) arg9 Z.p512 rfl x9) $$ H9
  iintro H9
  rw [shapeCast_self, shapeCast_self, shapeCast_self]
  iapply (wp_fast (c := c) S Z arg8 arg9 (candS S H.h0 (groups H.sl s)) (candI S H.h0 (groups H.sl s))) $$ [H8 H9]
  · isplitl [H8] <;> iassumption
  iintro ⟨H8, H9⟩
  unfold tail
  iapply (wp_emit S (c := c) arg5 arg6 Z.p50 _ x5 x6) $$ [H5 H6]
  · isplitl [H5] <;> iassumption
  iintro ⟨H5, H6⟩
  iapply (wp_lastCand (c := c) Z arg8) $$ H8
  iintro H8
  iapply (wp_retry (c := c) S H Z arg5 arg6 arg7 s _ _ _) $$ [H5 H6 H7]
  · isplitl [H5]; · iexact H5
    isplitl [H6] <;> iassumption
  iintro ⟨%y5, %y6, %hy, H5, H6, H7⟩
  have h5 : resS S H Z s = y5 := by
    unfold resS
    split_ifs with hb
    · exact (hy.1 hb).1.symm
    · exact (hy.2 hb).1.symm
  have h6 : resI S H Z s = y6 := by
    unfold resI
    split_ifs with hb
    · exact (hy.1 hb).2.symm
    · exact (hy.2 hb).2.symm
  rw [h5, h6]
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iexists _; iexact H9

/-- The body at one grid point, over what the pipeline hands it: the three scratch buffers at anything, the six windows'
    buffers each at some family's member, the inputs' families constant; the rest `R` and the dues `O` untouched. -/
theorem wp_block {D₁ D₂ D₃ D₄ D₅ D₆ : Type} (g₁ : D₁ → Vec F (sh 256 1024) .f32) (g₂ : D₂ → Vec F (sh 1024 1024) .f32)
    (g₃ : D₃ → Vec F (sh 1 1024) .f32) (g₄ : D₄ → Vec F (sh 1024 W) .f32) (g₅ : D₅ → Vec F (sh 256 50) .f32)
    (g₆ : D₆ → Vec F (sh 256 50) .i32) (m : Vec F (sh 256 1024) .f32) (wt : Vec F (sh 1024 1024) .f32)
    (b : Vec F (sh 1 1024) .f32) (mt : Vec F (sh 1024 W) .f32) (h₁ : ∀ d, g₁ d = m) (h₂ : ∀ d, g₂ d = wt)
    (h₃ : ∀ d, g₃ d = b) (h₄ : ∀ d, g₄ d = mt) (s : FVec F (sh 256 W) .f32)
    (hs : s = scores W base d₁ d₂ H.cast₁ H.cast₂ H.bc₃ H.cast₄ H.io₁ H.io₀ m wt b mt) (R O : sProp 𝕄)
    (prog : Prog (TpuEff nD τ sig (Elt F) Λ .tc) PUnit)
    (hprog : prog = body (F := F) S H Z base d₁ d₂ arg1 arg2 arg3 arg4 arg5 arg6 arg7 arg8 arg9) :
    iprop((((∃ x, has (F := F) arg7 c x) ∗ (∃ x, has (F := F) arg8 c x) ∗ (∃ x, has (F := F) arg9 c x)) ∗ R) ∗ O
        ∗ (∃ d, has (F := F) arg1 c (g₁ d)) ∗ (∃ d, has (F := F) arg2 c (g₂ d)) ∗ (∃ d, has (F := F) arg3 c (g₃ d))
        ∗ (∃ d, has (F := F) arg4 c (g₄ d)) ∗ (∃ d, has (F := F) arg5 c (g₅ d)) ∗ (∃ d, has (F := F) arg6 c (g₆ d)))
      ⊢ wp frame (wpE defs 𝒱 (c : Thread nD τ) none) E prog fun _ =>
        iprop((((∃ x, has (F := F) arg7 c x) ∗ (∃ x, has (F := F) arg8 c x) ∗ (∃ x, has (F := F) arg9 c x)) ∗ R) ∗ O
          ∗ has (F := F) arg1 c m ∗ has (F := F) arg2 c wt ∗ has (F := F) arg3 c b ∗ has (F := F) arg4 c mt
          ∗ has (F := F) arg5 c (resS S H Z s) ∗ has (F := F) arg6 c (resI S H Z s)) := by
  subst hprog
  iintro ⟨⟨⟨⟨%x7, H7⟩, ⟨%x8, H8⟩, ⟨%x9, H9⟩⟩, HR⟩, HO, ⟨%y1, H1⟩, ⟨%y2, H2⟩, ⟨%y3, H3⟩, ⟨%y4, H4⟩, ⟨%y5, H5⟩, ⟨%y6, H6⟩⟩
  rw [h₁, h₂, h₃, h₄]
  iapply (wp_body S H Z base d₁ d₂ arg1 arg2 arg3 arg4 arg5 arg6 arg7 arg8 arg9 m wt b mt (g₅ y5) (g₆ y6) x7 x8 x9 s hs _)
    $$ [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8] <;> iassumption
  iintro ⟨H1, H2, H3, H4, H5, H6, H7, H8, H9⟩
  isplitl [H7 H8 H9 HR]
  · isplitl [H7 H8 H9]
    · isplitl [H7]; · iexact H7
      isplitl [H8] <;> iassumption
    iexact HR
  isplitl [HO]; · iexact HO
  isplitl [H1]; · iexact H1
  isplitl [H2]; · iexact H2
  isplitl [H3]; · iexact H3
  isplitl [H4]; · iexact H4
  isplitl [H5] <;> iassumption

end Parts

end Cert.Span

end
-- ==== Proof.Region.lean ====
/- One kernel region as a segment of the program: given what the region's pipeline fetches and leaves (its proof data) and
   its body's obligation, it is entered from the unscoped buffers at one valuation and left with them at another. -/
module

public import proofs.«01_k».proof.Proof.Gen.KernelIdeal.Launch
public import proofs.«01_k».proof.Proof.Gen.KernelIdeal.Regions
public import Idealize.ShloMosaic.Lib.Pipeline.RegionsLoop
public import Idealize.ShloMosaic.Lib.Tactic

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's alone. -/
abbrev UU : Type := UR sig nD τ

local notation "𝕄" => MT nD τ sig Unit (Elt F) ℕ UU ℕ

/-- No core owes another anything: no level is assigned. -/
abbrev L : GSem nD τ sig → Finset Unit := fun _ => ∅
abbrev lv : GSem nD τ sig → Unit → ℕ := fun _ _ => 0
abbrev 𝒱₀ : Variants := Variants.none

/-- What rides along between the items: the core's `owes`, empty. -/
abbrev rides (c : Dev nD) : sProp 𝕄 := iprop(∃ W, owes (c : Thread nD τ) (0 : CellTallies nD τ sig Unit) W)

set_option backward.isDefEq.respectTransparency.types false in
/-- A region as a segment, from its proof data and its body's obligation: entered with every unscoped buffer at `V`, left
    with them at `V'`, which holds the windows' arrays as the write-backs leave them and agrees with `V` elsewhere. -/
def region (p : Fin 4) (pdats : (p : Fin 4) → (c : Dev nD) → Dat τ (Elt F) Unit ℕ UU ℕ (cfgs p) c)
    (hl : Pipeline.LaunchFacts (nD := nD) (τ := τ) cfgs p)
    (hbody : ∀ c, BodyObligation (pdats p c) (defs₀ (F := F)) 𝒱₀ () Set.univ)
    (V V' : Dev nD → Valuation τ sig (Elt F))
    (hA : ∀ c w, (pdats p c).A w = V c (Pipeline.arrRef (cfgs p).spec w))
    (hΦ : ∀ c t, (pdats p c).Φ t = Pipeline.scopedRest (cfgs p).spec c)
    (hq : ∀ c w, (pdats p c).q w = fullShare) (howed : ∀ c t, (pdats p c).owed t = 0)
    (hrec : ∀ c t, (pdats p c).recorded t = Set.univ)
    (hK : IsEmpty (Fin (pcfgs (F := F) p).pre.K))
    (hout : ∀ c w, (pdats p c).arrAt w (cfgs p).N = V' c (Pipeline.arrRef (cfgs p).spec w))
    (hne : ∀ c (b : Ref sig .tc), b ∉ Finset.univ.image (Pipeline.arrRef (cfgs p).spec) → V' c b = V c b) :
    Pipeline.RegionSeg (pcfgs (F := F)) adm pdats () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ rides c)
  post c := iprop(StableHlo.held (c : Thread nD τ) (Pipeline.ucRefs τ sig) (V' c) ∗ rides c)
  X _ := BI.emp
  Y _ := BI.emp
  Z c := Pipeline.unscopedRest (Ix := Unit) (Name := ℕ) (U := UU) (Lvl := ℕ) (cfgs p).spec c (fun b => V c b)
  hentry c := by
    rw [Pipeline.ownSems0_none, ← Pipeline.unscopedBufs_held]
    have hsplit := Pipeline.arrays_of_unscopedBufs (p := p) (pcfgs (F := F)) adm pdats hl.win hl.arr_whole c
      ((pdats p c).share_full fun w => hq c w) (fun b => V c b) (hA c)
    iintro ⟨⟨Hub, HO⟩, -, -⟩
    ihave H := hsplit $$ Hub
    icases H with ⟨Ha, Hrest⟩
    imodintro
    isplitl [Ha]; · iexact Ha
    isplitr; · unfold Pipeline.prefHeld; rw [Finset.univ_eq_empty_iff.mpr hK, BI.bigSep_empty]; iempintro
    isplitl [HO]
    · unfold Pipeline.Dat.owesAt Pipeline.owesWithin
      rw [howed]
      icases HO with ⟨%W, HO⟩; iexists W; isplitr; · ipureintro; exact fun _ _ => Or.inl (by rw [hrec]; trivial)
      iexact HO
    isplitr; · iempintro
    iexact Hrest
  hin c := by
    rw [hΦ]
    iintro ⟨-, -, Hr⟩; iexact Hr
  hout c := by
    rw [Pipeline.ownSems0_none, hΦ]
    iintro Hr
    isplitr; · iempintro
    isplitr; · iempintro
    iexact Hr
  hexit c := by
    rw [← Pipeline.unscopedBufs_held]
    have hjoin := Pipeline.unscopedBufs_of_arrays (p := p) (pcfgs (F := F)) adm (Ix := Unit) (Name := ℕ) (U := UU) (Lvl := ℕ) hl.win hl.arr_whole c
      pdats ((pdats p c).share_full fun w => hq c w) (fun b => V c b) (fun b => V' c b) ((pdats p c).arrAt · (cfgs p).N)
      (hout c) (hne c)
    iintro ⟨Ha, HO, -, Hrest⟩
    imodintro
    isplitl [Ha Hrest]
    · iapply hjoin; isplitl [Ha] <;> iassumption
    unfold Pipeline.Dat.owesAt Pipeline.owesWithin
    rw [howed]
    icases HO with ⟨%W, -, HO⟩; iexists W; iexact HO

end Cert.KernelIdeal.Run

end
-- ==== Proof.Data.lean ====
/- What each region's pipeline fetches and leaves, and its body's obligation: one grid point's block of scores, searched. -/
module

public import proofs.«01_k».proof.Proof.Bodies
public import proofs.«01_k».proof.Proof.Triple
public import proofs.«01_k».proof.Proof.Region
public import proofs.«01_k».proof.Proof.Gen.KernelIdeal.Points
public import Idealize.ShloMosaic.Lib.Pipeline.FrameBody

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
variable (V : Dev nD → Valuation τ sig (Elt F)) (c : Dev nD)

/-! ## Region 0: rows 0 to 1023 against the first 1024 columns -/

/-- The masked scores of region 0's block at grid point `t`. -/
def score0 (t : Fin cfg0.N) : FVec F (Span.sh 256 1024) .f32 :=
  Span.scores 1024 (Scalar.addi 0#32 (BitVec.ofNat 32 ((grid0.coords t) 0).val)) dot_S256x1024_S1024x1024_S256x1024_1_0_0_1_n_n dot_S256x1024_S1024x1024_S256x1024_1_0_0_1_n_n
    wide0.cast₁ wide0.cast₂ wide0.bc₃ wide0.cast₄ wide0.io₁ wide0.io₀
    (((cfg0.win 0).blk t).view.read (Elt F) (V c main_arg0)) (((cfg0.win 1).blk t).view.read (Elt F) (V c main_v0))
    (((cfg0.win 2).blk t).view.read (Elt F) (V c main_v2)) (((cfg0.win 3).blk t).view.read (Elt F) (V c main_v3))

/-- Region 0's proof data, entered at valuation `V`. -/
def dat0 : Dat τ (Elt F) Unit ℕ UU ℕ cfg0 c where
  A w := V c (Pipeline.arrRef spec0 w)
  after w t := match w with
    | ⟨0, _⟩ => ((cfg0.win 0).blk t).view.read (Elt F) (V c main_arg0)
    | ⟨1, _⟩ => ((cfg0.win 1).blk t).view.read (Elt F) (V c main_v0)
    | ⟨2, _⟩ => ((cfg0.win 2).blk t).view.read (Elt F) (V c main_v2)
    | ⟨3, _⟩ => ((cfg0.win 3).blk t).view.read (Elt F) (V c main_v3)
    | ⟨4, _⟩ => Span.resS shapes wide0 sizes (score0 V c t)
    | ⟨5, _⟩ => Span.resI shapes wide0 sizes (score0 V c t)
  Φ _ := Pipeline.scopedRest spec0 c
  q _ := fullShare
  owed _ := 0

/-- Region 0's body meets its obligation. -/
theorem obl0 : BodyObligation (dat0 V c) (defs₀ (F := F)) 𝒱₀ () Set.univ := fun t => by
  rw [bigSep_W0, bigSep_W0]
  rw [show (dat0 V c).Φ t.castSucc = Pipeline.scopedRest spec0 c from rfl, show (dat0 V c).Φ t.succ = Pipeline.scopedRest spec0 c from rfl,
    show (dat0 V c).owesAt () t.succ = (dat0 V c).owesAt () t.castSucc from rfl, scopedRest0_split c]
  have h₀ := (dat0 V c).before_in_eq_fetched 0 rfl (fun _ => rfl) (fun _ _ _ => rfl) (fun _ => rfl) t
  have h₁ := (dat0 V c).before_in_eq_fetched 1 rfl (fun _ => rfl) (fun _ _ _ => rfl) (fun _ => rfl) t
  have h₂ := (dat0 V c).before_in_eq_fetched 2 rfl (fun _ => rfl) (fun _ _ _ => rfl) (fun _ => rfl) t
  have h₃ := (dat0 V c).before_in_eq_fetched 3 rfl (fun _ => rfl) (fun _ _ _ => rfl) (fun _ => rfl) t
  have h := Span.wp_block (defs := defs₀ (F := F)) (𝒱 := 𝒱₀) (c := c) (E := Set.univ) shapes wide0 sizes _ dot_S256x1024_S1024x1024_S256x1024_1_0_0_1_n_n dot_S256x1024_S1024x1024_S256x1024_1_0_0_1_n_n
    (st0_0 t) (st0_1 t) (st0_2 t) (st0_3 t) (st0_4 t) (st0_5 t) (Memref.whole cc0_scratch0) (Memref.whole cc0_scratch1) (Memref.whole cc0_scratch2)
    ((dat0 V c).before 0 t) ((dat0 V c).before 1 t) ((dat0 V c).before 2 t) ((dat0 V c).before 3 t) ((dat0 V c).before 4 t) ((dat0 V c).before 5 t)
    _ _ _ _ h₀ h₁ h₂ h₃ (score0 V c t) rfl
    (Pipeline.scopedRestBut (Ix := Unit) (Name := ℕ) (U := UU) (Lvl := ℕ) (Val := Elt F) spec0 c [cc0_scratch0, cc0_scratch1, cc0_scratch2])
    ((dat0 V c).owesAt () t.castSucc) (bodyAt0 t) (body0 _ _ _ _ _ _ _ _ _ _ _ _ _ _ _ _ _ _ _)
  simp only [Span.has, owns_whole] at h
  exact h

/-! ## Region 1: rows 1024 to 2047 against the first 2048 columns -/

/-- The masked scores of region 1's block at grid point `t`. -/
def score1 (t : Fin cfg1.N) : FVec F (Span.sh 256 2048) .f32 :=
  Span.scores 2048 (Scalar.addi 4#32 (BitVec.ofNat 32 ((grid1.coords t) 0).val)) dot_S256x1024_S1024x1024_S256x1024_1_0_0_1_n_n dot_S256x1024_S1024x2048_S256x2048_1_0_0_1_n_n
    wide1.cast₁ wide1.cast₂ wide1.bc₃ wide1.cast₄ wide1.io₁ wide1.io₀
    (((cfg1.win 0).blk t).view.read (Elt F) (V c main_arg0)) (((cfg1.win 1).blk t).view.read (Elt F) (V c main_v0))
    (((cfg1.win 2).blk t).view.read (Elt F) (V c main_v2)) (((cfg1.win 3).blk t).view.read (Elt F) (V c main_v5))

/-- Region 1's proof data, entered at valuation `V`. -/
def dat1 : Dat τ (Elt F) Unit ℕ UU ℕ cfg1 c where
  A w := V c (Pipeline.arrRef spec1 w)
  after w t := match w with
    | ⟨0, _⟩ => ((cfg1.win 0).blk t).view.read (Elt F) (V c main_arg0)
    | ⟨1, _⟩ => ((cfg1.win 1).blk t).view.read (Elt F) (V c main_v0)
    | ⟨2, _⟩ => ((cfg1.win 2).blk t).view.read (Elt F) (V c main_v2)
    | ⟨3, _⟩ => ((cfg1.win 3).blk t).view.read (Elt F) (V c main_v5)
    | ⟨4, _⟩ => Span.resS shapes wide1 sizes (score1 V c t)
    | ⟨5, _⟩ => Span.resI shapes wide1 sizes (score1 V c t)
  Φ _ := Pipeline.scopedRest spec1 c
  q _ := fullShare
  owed _ := 0

/-- Region 1's body meets its obligation. -/
theorem obl1 : BodyObligation (dat1 V c) (defs₀ (F := F)) 𝒱₀ () Set.univ := fun t => by
  rw [bigSep_W1, bigSep_W1]
  rw [show (dat1 V c).Φ t.castSucc = Pipeline.scopedRest spec1 c from rfl, show (dat1 V c).Φ t.succ = Pipeline.scopedRest spec1 c from rfl,
    show (dat1 V c).owesAt () t.succ = (dat1 V c).owesAt () t.castSucc from rfl, scopedRest1_split c]
  have h₀ := (dat1 V c).before_in_eq_fetched 0 rfl (fun _ => rfl) (fun _ _ _ => rfl) (fun _ => rfl) t
  have h₁ := (dat1 V c).before_in_eq_fetched 1 rfl (fun _ => rfl) (fun _ _ _ => rfl) (fun _ => rfl) t
  have h₂ := (dat1 V c).before_in_eq_fetched 2 rfl (fun _ => rfl) (fun _ _ _ => rfl) (fun _ => rfl) t
  have h₃ := (dat1 V c).before_in_eq_fetched 3 rfl (fun _ => rfl) (fun _ _ _ => rfl) (fun _ => rfl) t
  have h := Span.wp_block (defs := defs₀ (F := F)) (𝒱 := 𝒱₀) (c := c) (E := Set.univ) shapes wide1 sizes _ dot_S256x1024_S1024x1024_S256x1024_1_0_0_1_n_n dot_S256x1024_S1024x2048_S256x2048_1_0_0_1_n_n
    (st1_0 t) (st1_1 t) (st1_2 t) (st1_3 t) (st1_4 t) (st1_5 t) (Memref.whole cc1_scratch0) (Memref.whole cc1_scratch1) (Memref.whole cc1_scratch2)
    ((dat1 V c).before 0 t) ((dat1 V c).before 1 t) ((dat1 V c).before 2 t) ((dat1 V c).before 3 t) ((dat1 V c).before 4 t) ((dat1 V c).before 5 t)
    _ _ _ _ h₀ h₁ h₂ h₃ (score1 V c t) rfl
    (Pipeline.scopedRestBut (Ix := Unit) (Name := ℕ) (U := UU) (Lvl := ℕ) (Val := Elt F) spec1 c [cc1_scratch0, cc1_scratch1, cc1_scratch2])
    ((dat1 V c).owesAt () t.castSucc) (bodyAt1 t) (body1 _ _ _ _ _ _ _ _ _ _ _ _ _ _ _ _ _ _ _)
  simp only [Span.has, owns_whole] at h
  exact h

/-! ## Region 2: rows 2048 to 3071 against the first 3072 columns -/

/-- The masked scores of region 2's block at grid point `t`. -/
def score2 (t : Fin cfg2.N) : FVec F (Span.sh 256 3072) .f32 :=
  Span.scores 3072 (Scalar.addi 8#32 (BitVec.ofNat 32 ((grid2.coords t) 0).val)) dot_S256x1024_S1024x1024_S256x1024_1_0_0_1_n_n dot_S256x1024_S1024x3072_S256x3072_1_0_0_1_n_n
    wide2.cast₁ wide2.cast₂ wide2.bc₃ wide2.cast₄ wide2.io₁ wide2.io₀
    (((cfg2.win 0).blk t).view.read (Elt F) (V c main_arg0)) (((cfg2.win 1).blk t).view.read (Elt F) (V c main_v0))
    (((cfg2.win 2).blk t).view.read (Elt F) (V c main_v2)) (((cfg2.win 3).blk t).view.read (Elt F) (V c main_v7))

/-- Region 2's proof data, entered at valuation `V`. -/
def dat2 : Dat τ (Elt F) Unit ℕ UU ℕ cfg2 c where
  A w := V c (Pipeline.arrRef spec2 w)
  after w t := match w with
    | ⟨0, _⟩ => ((cfg2.win 0).blk t).view.read (Elt F) (V c main_arg0)
    | ⟨1, _⟩ => ((cfg2.win 1).blk t).view.read (Elt F) (V c main_v0)
    | ⟨2, _⟩ => ((cfg2.win 2).blk t).view.read (Elt F) (V c main_v2)
    | ⟨3, _⟩ => ((cfg2.win 3).blk t).view.read (Elt F) (V c main_v7)
    | ⟨4, _⟩ => Span.resS shapes wide2 sizes (score2 V c t)
    | ⟨5, _⟩ => Span.resI shapes wide2 sizes (score2 V c t)
  Φ _ := Pipeline.scopedRest spec2 c
  q _ := fullShare
  owed _ := 0

/-- Region 2's body meets its obligation. -/
theorem obl2 : BodyObligation (dat2 V c) (defs₀ (F := F)) 𝒱₀ () Set.univ := fun t => by
  rw [bigSep_W2, bigSep_W2]
  rw [show (dat2 V c).Φ t.castSucc = Pipeline.scopedRest spec2 c from rfl, show (dat2 V c).Φ t.succ = Pipeline.scopedRest spec2 c from rfl,
    show (dat2 V c).owesAt () t.succ = (dat2 V c).owesAt () t.castSucc from rfl, scopedRest2_split c]
  have h₀ := (dat2 V c).before_in_eq_fetched 0 rfl (fun _ => rfl) (fun _ _ _ => rfl) (fun _ => rfl) t
  have h₁ := (dat2 V c).before_in_eq_fetched 1 rfl (fun _ => rfl) (fun _ _ _ => rfl) (fun _ => rfl) t
  have h₂ := (dat2 V c).before_in_eq_fetched 2 rfl (fun _ => rfl) (fun _ _ _ => rfl) (fun _ => rfl) t
  have h₃ := (dat2 V c).before_in_eq_fetched 3 rfl (fun _ => rfl) (fun _ _ _ => rfl) (fun _ => rfl) t
  have h := Span.wp_block (defs := defs₀ (F := F)) (𝒱 := 𝒱₀) (c := c) (E := Set.univ) shapes wide2 sizes _ dot_S256x1024_S1024x1024_S256x1024_1_0_0_1_n_n dot_S256x1024_S1024x3072_S256x3072_1_0_0_1_n_n
    (st2_0 t) (st2_1 t) (st2_2 t) (st2_3 t) (st2_4 t) (st2_5 t) (Memref.whole cc2_scratch0) (Memref.whole cc2_scratch1) (Memref.whole cc2_scratch2)
    ((dat2 V c).before 0 t) ((dat2 V c).before 1 t) ((dat2 V c).before 2 t) ((dat2 V c).before 3 t) ((dat2 V c).before 4 t) ((dat2 V c).before 5 t)
    _ _ _ _ h₀ h₁ h₂ h₃ (score2 V c t) rfl
    (Pipeline.scopedRestBut (Ix := Unit) (Name := ℕ) (U := UU) (Lvl := ℕ) (Val := Elt F) spec2 c [cc2_scratch0, cc2_scratch1, cc2_scratch2])
    ((dat2 V c).owesAt () t.castSucc) (bodyAt2 t) (body2 _ _ _ _ _ _ _ _ _ _ _ _ _ _ _ _ _ _ _)
  simp only [Span.has, owns_whole] at h
  exact h

/-! ## Region 3: rows 3072 to 4095 against all 4096 columns -/

/-- The masked scores of region 3's block at grid point `t`. -/
def score3 (t : Fin cfg3.N) : FVec F (Span.sh 256 4096) .f32 :=
  Span.scores 4096 (Scalar.addi 12#32 (BitVec.ofNat 32 ((grid3.coords t) 0).val)) dot_S256x1024_S1024x1024_S256x1024_1_0_0_1_n_n dot_S256x1024_S1024x4096_S256x4096_1_0_0_1_n_n
    wide3.cast₁ wide3.cast₂ wide3.bc₃ wide3.cast₄ wide3.io₁ wide3.io₀
    (((cfg3.win 0).blk t).view.read (Elt F) (V c main_arg0)) (((cfg3.win 1).blk t).view.read (Elt F) (V c main_v0))
    (((cfg3.win 2).blk t).view.read (Elt F) (V c main_v2)) (((cfg3.win 3).blk t).view.read (Elt F) (V c main_v1))

/-- Region 3's proof data, entered at valuation `V`. -/
def dat3 : Dat τ (Elt F) Unit ℕ UU ℕ cfg3 c where
  A w := V c (Pipeline.arrRef spec3 w)
  after w t := match w with
    | ⟨0, _⟩ => ((cfg3.win 0).blk t).view.read (Elt F) (V c main_arg0)
    | ⟨1, _⟩ => ((cfg3.win 1).blk t).view.read (Elt F) (V c main_v0)
    | ⟨2, _⟩ => ((cfg3.win 2).blk t).view.read (Elt F) (V c main_v2)
    | ⟨3, _⟩ => ((cfg3.win 3).blk t).view.read (Elt F) (V c main_v1)
    | ⟨4, _⟩ => Span.resS shapes wide3 sizes (score3 V c t)
    | ⟨5, _⟩ => Span.resI shapes wide3 sizes (score3 V c t)
  Φ _ := Pipeline.scopedRest spec3 c
  q _ := fullShare
  owed _ := 0

/-- Region 3's body meets its obligation. -/
theorem obl3 : BodyObligation (dat3 V c) (defs₀ (F := F)) 𝒱₀ () Set.univ := fun t => by
  rw [bigSep_W3, bigSep_W3]
  rw [show (dat3 V c).Φ t.castSucc = Pipeline.scopedRest spec3 c from rfl, show (dat3 V c).Φ t.succ = Pipeline.scopedRest spec3 c from rfl,
    show (dat3 V c).owesAt () t.succ = (dat3 V c).owesAt () t.castSucc from rfl, scopedRest3_split c]
  have h₀ := (dat3 V c).before_in_eq_fetched 0 rfl (fun _ => rfl) (fun _ _ _ => rfl) (fun _ => rfl) t
  have h₁ := (dat3 V c).before_in_eq_fetched 1 rfl (fun _ => rfl) (fun _ _ _ => rfl) (fun _ => rfl) t
  have h₂ := (dat3 V c).before_in_eq_fetched 2 rfl (fun _ => rfl) (fun _ _ _ => rfl) (fun _ => rfl) t
  have h₃ := (dat3 V c).before_in_eq_fetched 3 rfl (fun _ => rfl) (fun _ _ _ => rfl) (fun _ => rfl) t
  have h := Span.wp_block (defs := defs₀ (F := F)) (𝒱 := 𝒱₀) (c := c) (E := Set.univ) shapes wide3 sizes _ dot_S256x1024_S1024x1024_S256x1024_1_0_0_1_n_n dot_S256x1024_S1024x4096_S256x4096_1_0_0_1_n_n
    (st3_0 t) (st3_1 t) (st3_2 t) (st3_3 t) (st3_4 t) (st3_5 t) (Memref.whole cc3_scratch0) (Memref.whole cc3_scratch1) (Memref.whole cc3_scratch2)
    ((dat3 V c).before 0 t) ((dat3 V c).before 1 t) ((dat3 V c).before 2 t) ((dat3 V c).before 3 t) ((dat3 V c).before 4 t) ((dat3 V c).before 5 t)
    _ _ _ _ h₀ h₁ h₂ h₃ (score3 V c t) rfl
    (Pipeline.scopedRestBut (Ix := Unit) (Name := ℕ) (U := UU) (Lvl := ℕ) (Val := Elt F) spec3 c [cc3_scratch0, cc3_scratch1, cc3_scratch2])
    ((dat3 V c).owesAt () t.castSucc) (bodyAt3 t) (body3 _ _ _ _ _ _ _ _ _ _ _ _ _ _ _ _ _ _ _)
  simp only [Span.has, owns_whole] at h
  exact h

end Cert.KernelIdeal.Run

end
-- ==== Proof.Run.lean ====
/- The program from launch to end: the valuation each item leaves, the four regions as segments between them, and the run. -/
module

public import proofs.«01_k».proof.Proof.Data

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg)

variable {F : FTy → Type} [FloatOps F]

/-! ## What a region leaves: two arrays replaced -/

section Leave

variable (V : Valuation τ sig (Elt F)) (r₁ r₂ : Ref sig .tc) (x₁ : (Proc.devRef (τ := τ) .tc r₁).ty.Contents (Elt F)) (x₂ : (Proc.devRef (τ := τ) .tc r₂).ty.Contents (Elt F))

/-- The valuation with `r₁` at `x₁` and `r₂` at `x₂`. -/
def leave : Valuation τ sig (Elt F) := Function.update (Function.update V r₁ x₁) r₂ x₂

theorem leave_of {r : Ref sig .tc} (h₁ : r ≠ r₁) (h₂ : r ≠ r₂) : leave V r₁ r₂ x₁ x₂ r = V r := by
  unfold leave
  rw [Function.update_of_ne (StableHlo.devRef_ne_of_ne h₂), Function.update_of_ne (StableHlo.devRef_ne_of_ne h₁)]

theorem leave_fst (h : r₁ ≠ r₂) : leave V r₁ r₂ x₁ x₂ r₁ = x₁ := by
  unfold leave
  rw [Function.update_of_ne (StableHlo.devRef_ne_of_ne h), Function.update_self]

theorem leave_snd : leave V r₁ r₂ x₁ x₂ r₂ = x₂ := by
  unfold leave
  rw [Function.update_self]

end Leave

/-! ## The valuations between the items -/

variable (m : (ℓ : Loc nD τ sig) → Buf (Elt F) ℓ)

/-- After region 0, after the slice that follows, after region 1, and so on to the last region. -/
def W2 (c : Dev nD) : Valuation τ sig (Elt F) :=
  leave (V1 m c) main_v4_0 main_v4_1 ((dat0 (V1 m) c).arrAt 4 cfg0.N) ((dat0 (V1 m) c).arrAt 5 cfg0.N)
def W3 (c : Dev nD) : Valuation τ sig (Elt F) := StableHlo.after hostOps1 (W2 m c)
def W4 (c : Dev nD) : Valuation τ sig (Elt F) :=
  leave (W3 m c) main_v6_0 main_v6_1 ((dat1 (W3 m) c).arrAt 4 cfg1.N) ((dat1 (W3 m) c).arrAt 5 cfg1.N)
def W5 (c : Dev nD) : Valuation τ sig (Elt F) := StableHlo.after hostOps2 (W4 m c)
def W6 (c : Dev nD) : Valuation τ sig (Elt F) :=
  leave (W5 m c) main_v8_0 main_v8_1 ((dat2 (W5 m) c).arrAt 4 cfg2.N) ((dat2 (W5 m) c).arrAt 5 cfg2.N)
def W7 (c : Dev nD) : Valuation τ sig (Elt F) :=
  leave (W6 m c) main_v9_0 main_v9_1 ((dat3 (W6 m) c).arrAt 4 cfg3.N) ((dat3 (W6 m) c).arrAt 5 cfg3.N)

/-- One of four, by the item it stands after. -/
def pick {X : Type} (x₂ x₄ x₆ x₇ : X) : ℕ → X
  | 2 => x₂
  | 4 => x₄
  | 6 => x₆
  | _ => x₇

/-- What the regions leave, as the generated valuations take it. -/
def outs : Outs (F := F) := fun j r c => pick (W2 m) (W4 m) (W6 m) (W7 m) j c r

theorem outs_2 : outs m 2 = (fun (r : Ref sig .tc) c => W2 m c r) := by
  unfold outs; rw [show pick (W2 m) (W4 m) (W6 m) (W7 m) 2 = W2 m from (fun a b c d => rfl : ∀ a b c d : Dev nD → Valuation τ sig (Elt F), pick a b c d 2 = a) _ _ _ _]
theorem outs_4 : outs m 4 = (fun (r : Ref sig .tc) c => W4 m c r) := by
  unfold outs; rw [show pick (W2 m) (W4 m) (W6 m) (W7 m) 4 = W4 m from (fun a b c d => rfl : ∀ a b c d : Dev nD → Valuation τ sig (Elt F), pick a b c d 4 = b) _ _ _ _]
theorem outs_6 : outs m 6 = (fun (r : Ref sig .tc) c => W6 m c r) := by
  unfold outs; rw [show pick (W2 m) (W4 m) (W6 m) (W7 m) 6 = W6 m from (fun a b c d => rfl : ∀ a b c d : Dev nD → Valuation τ sig (Elt F), pick a b c d 6 = c) _ _ _ _]
theorem outs_7 : outs m 7 = (fun (r : Ref sig .tc) c => W7 m c r) := by
  unfold outs; rw [show pick (W2 m) (W4 m) (W6 m) (W7 m) 7 = W7 m from (fun a b c d => rfl : ∀ a b c d : Dev nD → Valuation τ sig (Elt F), pick a b c d 7 = d) _ _ _ _]

theorem leave_self {V V' : Valuation τ sig (Elt F)} (r₁ r₂ : Ref sig .tc) (x₁ : (Proc.devRef (τ := τ) .tc r₁).ty.Contents (Elt F))
    (x₂ : (Proc.devRef (τ := τ) .tc r₂).ty.Contents (Elt F)) (Y : Valuation τ sig (Elt F)) (hV : V = V')
    (hY : Y = leave V' r₁ r₂ x₁ x₂) (h : r₁ ≠ r₂) :
    Function.update (Function.update V (Proc.devRef (τ := τ) .tc r₁) (Y r₁)) (Proc.devRef (τ := τ) .tc r₂) (Y r₂) = Y := by
  subst hV hY
  rw [leave_fst V r₁ r₂ x₁ x₂ h, leave_snd V r₁ r₂ x₁ x₂]; rfl

theorem V2_eq (c : Dev nD) : V2 m (outs m) c = W2 m c := by
  unfold V2; rw [outs_2]; exact leave_self main_v4_0 main_v4_1 _ _ (W2 m c) rfl rfl (by decide)
theorem V3_eq (c : Dev nD) : V3 m (outs m) c = W3 m c := congrArg (StableHlo.after hostOps1) (V2_eq m c)
theorem V4_eq (c : Dev nD) : V4 m (outs m) c = W4 m c := by
  unfold V4; rw [outs_4]; exact leave_self main_v6_0 main_v6_1 _ _ (W4 m c) (V3_eq m c) rfl (by decide)
theorem V5_eq (c : Dev nD) : V5 m (outs m) c = W5 m c := congrArg (StableHlo.after hostOps2) (V4_eq m c)
theorem V6_eq (c : Dev nD) : V6 m (outs m) c = W6 m c := by
  unfold V6; rw [outs_6]; exact leave_self main_v8_0 main_v8_1 _ _ (W6 m c) (V5_eq m c) rfl (by decide)
theorem V7_eq (c : Dev nD) : V7 m (outs m) c = W7 m c := by
  unfold V7; rw [outs_7]; exact leave_self main_v9_0 main_v9_1 _ _ (W7 m c) (V6_eq m c) rfl (by decide)

/-! ## The regions as segments -/

/-- Every region's proof data. -/
def pdats : (p : Fin 4) → (c : Dev nD) → Dat τ (Elt F) Unit ℕ UU ℕ (cfgs p) c
  | ⟨0, _⟩ => dat0 (V1 m)
  | ⟨1, _⟩ => dat1 (W3 m)
  | ⟨2, _⟩ => dat2 (W5 m)
  | ⟨3, _⟩ => dat3 (W6 m)

theorem off_arrays {n : Nat} {f : Fin n → Ref sig .tc} {b : Ref sig .tc} (h : b ∉ Finset.univ.image f) (w : Fin n) : b ≠ f w :=
  fun e => h (Finset.mem_image.mpr ⟨w, Finset.mem_univ _, e.symm⟩)

/-- What region 0 leaves in its windows' arrays. -/
theorem left0 (c : Dev nD) : ∀ w : Fin 6, (dat0 (V1 m) c).arrAt w cfg0.N = W2 m c (Pipeline.arrRef spec0 w)
  | 0 => ((dat0 (V1 m) c).arrAt_in 0 rfl _).trans (leave_of (V1 m c) main_v4_0 main_v4_1 _ _ (r := main_arg0) (by decide) (by decide)).symm
  | 1 => ((dat0 (V1 m) c).arrAt_in 1 rfl _).trans (leave_of (V1 m c) main_v4_0 main_v4_1 _ _ (r := main_v0) (by decide) (by decide)).symm
  | 2 => ((dat0 (V1 m) c).arrAt_in 2 rfl _).trans (leave_of (V1 m c) main_v4_0 main_v4_1 _ _ (r := main_v2) (by decide) (by decide)).symm
  | 3 => ((dat0 (V1 m) c).arrAt_in 3 rfl _).trans (leave_of (V1 m c) main_v4_0 main_v4_1 _ _ (r := main_v3) (by decide) (by decide)).symm
  | 4 => (leave_fst (V1 m c) main_v4_0 main_v4_1 _ _ (by decide)).symm
  | 5 => (leave_snd (V1 m c) main_v4_0 main_v4_1 _ _).symm
  | ⟨_ + 6, h⟩ => absurd h (Nat.not_lt.2 (Nat.le_add_left _ _))

set_option backward.isDefEq.respectTransparency.types false in
/-- Region 0. -/
def R0 : Pipeline.RegionSeg (pcfgs (F := F)) adm (pdats m) () defs₀ 𝒱₀ L lv 0 :=
  region 0 (pdats m) launch0 (obl0 (V1 m)) (V1 m) (W2 m) (fun _ _ => rfl) (fun _ _ => rfl) (fun _ _ => rfl) (fun _ _ => rfl)
    (fun _ _ => rfl) (inferInstanceAs (IsEmpty (Fin 0))) (left0 m)
    (fun c _ h => leave_of (V1 m c) main_v4_0 main_v4_1 _ _ (off_arrays h (4 : Fin 6)) (off_arrays h (5 : Fin 6)))

/-- What region 1 leaves in its windows' arrays. -/
theorem left1 (c : Dev nD) : ∀ w : Fin 6, (dat1 (W3 m) c).arrAt w cfg1.N = W4 m c (Pipeline.arrRef spec1 w)
  | 0 => ((dat1 (W3 m) c).arrAt_in 0 rfl _).trans (leave_of (W3 m c) main_v6_0 main_v6_1 _ _ (r := main_arg0) (by decide) (by decide)).symm
  | 1 => ((dat1 (W3 m) c).arrAt_in 1 rfl _).trans (leave_of (W3 m c) main_v6_0 main_v6_1 _ _ (r := main_v0) (by decide) (by decide)).symm
  | 2 => ((dat1 (W3 m) c).arrAt_in 2 rfl _).trans (leave_of (W3 m c) main_v6_0 main_v6_1 _ _ (r := main_v2) (by decide) (by decide)).symm
  | 3 => ((dat1 (W3 m) c).arrAt_in 3 rfl _).trans (leave_of (W3 m c) main_v6_0 main_v6_1 _ _ (r := main_v5) (by decide) (by decide)).symm
  | 4 => (leave_fst (W3 m c) main_v6_0 main_v6_1 _ _ (by decide)).symm
  | 5 => (leave_snd (W3 m c) main_v6_0 main_v6_1 _ _).symm
  | ⟨_ + 6, h⟩ => absurd h (Nat.not_lt.2 (Nat.le_add_left _ _))

set_option backward.isDefEq.respectTransparency.types false in
/-- Region 1. -/
def R1 : Pipeline.RegionSeg (pcfgs (F := F)) adm (pdats m) () defs₀ 𝒱₀ L lv 1 :=
  region 1 (pdats m) launch1 (obl1 (W3 m)) (W3 m) (W4 m) (fun _ _ => rfl) (fun _ _ => rfl) (fun _ _ => rfl) (fun _ _ => rfl)
    (fun _ _ => rfl) (inferInstanceAs (IsEmpty (Fin 0))) (left1 m)
    (fun c _ h => leave_of (W3 m c) main_v6_0 main_v6_1 _ _ (off_arrays h (4 : Fin 6)) (off_arrays h (5 : Fin 6)))

/-- What region 2 leaves in its windows' arrays. -/
theorem left2 (c : Dev nD) : ∀ w : Fin 6, (dat2 (W5 m) c).arrAt w cfg2.N = W6 m c (Pipeline.arrRef spec2 w)
  | 0 => ((dat2 (W5 m) c).arrAt_in 0 rfl _).trans (leave_of (W5 m c) main_v8_0 main_v8_1 _ _ (r := main_arg0) (by decide) (by decide)).symm
  | 1 => ((dat2 (W5 m) c).arrAt_in 1 rfl _).trans (leave_of (W5 m c) main_v8_0 main_v8_1 _ _ (r := main_v0) (by decide) (by decide)).symm
  | 2 => ((dat2 (W5 m) c).arrAt_in 2 rfl _).trans (leave_of (W5 m c) main_v8_0 main_v8_1 _ _ (r := main_v2) (by decide) (by decide)).symm
  | 3 => ((dat2 (W5 m) c).arrAt_in 3 rfl _).trans (leave_of (W5 m c) main_v8_0 main_v8_1 _ _ (r := main_v7) (by decide) (by decide)).symm
  | 4 => (leave_fst (W5 m c) main_v8_0 main_v8_1 _ _ (by decide)).symm
  | 5 => (leave_snd (W5 m c) main_v8_0 main_v8_1 _ _).symm
  | ⟨_ + 6, h⟩ => absurd h (Nat.not_lt.2 (Nat.le_add_left _ _))

set_option backward.isDefEq.respectTransparency.types false in
/-- Region 2. -/
def R2 : Pipeline.RegionSeg (pcfgs (F := F)) adm (pdats m) () defs₀ 𝒱₀ L lv 2 :=
  region 2 (pdats m) launch2 (obl2 (W5 m)) (W5 m) (W6 m) (fun _ _ => rfl) (fun _ _ => rfl) (fun _ _ => rfl) (fun _ _ => rfl)
    (fun _ _ => rfl) (inferInstanceAs (IsEmpty (Fin 0))) (left2 m)
    (fun c _ h => leave_of (W5 m c) main_v8_0 main_v8_1 _ _ (off_arrays h (4 : Fin 6)) (off_arrays h (5 : Fin 6)))

/-- What region 3 leaves in its windows' arrays. -/
theorem left3 (c : Dev nD) : ∀ w : Fin 6, (dat3 (W6 m) c).arrAt w cfg3.N = W7 m c (Pipeline.arrRef spec3 w)
  | 0 => ((dat3 (W6 m) c).arrAt_in 0 rfl _).trans (leave_of (W6 m c) main_v9_0 main_v9_1 _ _ (r := main_arg0) (by decide) (by decide)).symm
  | 1 => ((dat3 (W6 m) c).arrAt_in 1 rfl _).trans (leave_of (W6 m c) main_v9_0 main_v9_1 _ _ (r := main_v0) (by decide) (by decide)).symm
  | 2 => ((dat3 (W6 m) c).arrAt_in 2 rfl _).trans (leave_of (W6 m c) main_v9_0 main_v9_1 _ _ (r := main_v2) (by decide) (by decide)).symm
  | 3 => ((dat3 (W6 m) c).arrAt_in 3 rfl _).trans (leave_of (W6 m c) main_v9_0 main_v9_1 _ _ (r := main_v1) (by decide) (by decide)).symm
  | 4 => (leave_fst (W6 m c) main_v9_0 main_v9_1 _ _ (by decide)).symm
  | 5 => (leave_snd (W6 m c) main_v9_0 main_v9_1 _ _).symm
  | ⟨_ + 6, h⟩ => absurd h (Nat.not_lt.2 (Nat.le_add_left _ _))

set_option backward.isDefEq.respectTransparency.types false in
/-- Region 3. -/
def R3 : Pipeline.RegionSeg (pcfgs (F := F)) adm (pdats m) () defs₀ 𝒱₀ L lv 3 :=
  region 3 (pdats m) launch3 (obl3 (W6 m)) (W6 m) (W7 m) (fun _ _ => rfl) (fun _ _ => rfl) (fun _ _ => rfl) (fun _ _ => rfl)
    (fun _ _ => rfl) (inferInstanceAs (IsEmpty (Fin 0))) (left3 m)
    (fun c _ h => leave_of (W6 m c) main_v9_0 main_v9_1 _ _ (off_arrays h (4 : Fin 6)) (off_arrays h (5 : Fin 6)))

end Cert.KernelIdeal.Run

end
-- ==== Proof.Whole.lean ====
/- The run: @main from launch to end, its two results at the last valuation. -/
module

public import proofs.«01_k».proof.Proof.Run
public import Idealize.ShloMosaic.Lib.StableHlo.RunHlo

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg)

variable {F : FTy → Type} [FloatOps F]
variable (m : (ℓ : Loc nD τ sig) → Buf (Elt F) ℓ) (ρ : Dev nD → PrngReg)

/-- The pipeline library's embedding. -/
abbrev EP : Emb (UR sig nD τ) (MT nD τ sig Unit (Elt F) ℕ UU ℕ) := emb₁

/-- The launch element of the pipeline library's algebra. -/
def u₀ : UU := initOf (Pipeline.cells cfgs cellOf_inj) (Pipeline.launchToks cfgs cellOf_inj)

/-- What the last item leaves. -/
abbrev W8 (c : Dev nD) : Valuation τ sig (Elt F) := V8 m (outs m) c

/-- The launch, its first thread state: every unscoped buffer as in memory, and the core's empty `owes`. -/
theorem launch_held :
    iprop((bigSep Finset.univ fun c : Dev nD => iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ emp)) ∗ levAts L lv)
      ⊢ (|={Set.univ}=> bigSep Finset.univ fun c : Dev nD => iprop(StableHlo.held (c : Thread nD τ) (Pipeline.ucRefs τ sig) (V0 m c) ∗ rides (F := F) c)
        : sProp (MT nD τ sig Unit (Elt F) ℕ UU ℕ)) := by
  have hc (c : Dev nD) : iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ emp)
      ⊢ (iprop(StableHlo.held (c : Thread nD τ) (Pipeline.ucRefs τ sig) (V0 m c) ∗ rides (F := F) c)
        : sProp (MT nD τ sig Unit (Elt F) ℕ UU ℕ)) := by
    rw [← Pipeline.unscopedBufs_held (Ix := Unit) (Name := ℕ) (U := UU) (Lvl := ℕ) c (V0 m c)]
    iintro ⟨Hb, -, HO, -⟩
    isplitl [Hb]; · iexact Hb
    iexists ∅; iexact HO
  have h : (bigSep Finset.univ fun c : Dev nD => iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ emp))
      ⊢ (bigSep Finset.univ fun c : Dev nD => iprop(StableHlo.held (c : Thread nD τ) (Pipeline.ucRefs τ sig) (V0 m c) ∗ rides (F := F) c)
        : sProp (MT nD τ sig Unit (Elt F) ℕ UU ℕ)) := bigSep_mono fun c _ => hc c
  iintro ⟨H, -⟩
  imodintro
  iapply h $$ H

/-- Every buffer a claim reads is unscoped. -/
theorem unscoped_mem (r : Ref sig .tc) (h : (Proc.devRef (τ := τ) .tc r).isScoped = false) : Proc.devRef (τ := τ) .tc r ∈ Pipeline.ucRefs τ sig :=
  Finset.mem_filter.mpr ⟨StableHlo.devRef_mem_tcRefs r, by rw [h]; exact Bool.false_ne_true⟩

set_option backward.isDefEq.respectTransparency.types false in
/-- @main terminates without fault from any memory; at the end the arguments are unchanged, the two results are at the last
    valuation, and every semaphore counter is zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v10) = W8 m c main_v10
      ∧ r.2.mem ((c.tc : Thread nD τ).loc main_v11) = W8 m c main_v11)
      ∧ r.2.sem = fun _ => 0) := by
  refine Pipeline.θ_run_regions_kit_dev_sems (pcfgs (F := F)) adm (pdats m) () cellOf_inj EP defs₀ 𝒱₀ L lv m ρ main
    (segs m (outs m) 𝒱₀ L lv (fun _ c => rides (F := F) c) () (pdats m) (R0 m) (R1 m) (R2 m) (R3 m))
    (fun c Q => by
      rewrite [main_chain c, Seg.run_eq_chain,
        show (segs m (outs m) 𝒱₀ L lv (fun _ c => rides (F := F) c) () (pdats m) (R0 m) (R1 m) (R2 m) (R3 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4 ] from rfl]
      dsimp (config := { failIfUnchanged := false }) only
      exact .rfl)
    (fun c => by simp only [segs, Seg.pipes_host, Seg.pipes_region, Seg.pipes_nil]; decide) (fun _ => 0) (fun _ _ => rfl) (fun _ => BI.emp) u₀
    (by
      unfold u₀
      rw [bigSep_emp_const, ownU_emb₁]
      iintro H
      imodintro
      isplitl [H]; · iexact H
      iempintro)
    (T₀ := fun c => iprop(StableHlo.held (c : Thread nD τ) (Pipeline.ucRefs τ sig) (V0 m c) ∗ rides c))
    (Tₙ := fun c => StableHlo.held (c : Thread nD τ) (Pipeline.ucRefs τ sig) (W8 m c))
    (hch := fun c => ⟨.rfl, .rfl, ?_, ?_, ?_, ?_, ?_, ?_, .rfl⟩)
    (hinit := launch_held m ρ)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
      ∧ s.mem ((c.tc : Thread nD τ).loc main_v10) = W8 m c main_v10
      ∧ s.mem ((c.tc : Thread nD τ).loc main_v11) = W8 m c main_v11)
    (hfin := fun c s' => ?_) (hQ := fun _ h hz => ⟨h, funext fun g => hz g (.inr (regions_no_unscoped g.2))⟩)
  · show iprop(StableHlo.held (c : Thread nD τ) (Pipeline.ucRefs τ sig) (W2 m c) ∗ rides c) ⊢ iprop(StableHlo.held (c : Thread nD τ) (Pipeline.ucRefs τ sig) (V2 m (outs m) c) ∗ rides c)
    rw [V2_eq]
  · show iprop(StableHlo.held (c : Thread nD τ) (Pipeline.ucRefs τ sig) (V3 m (outs m) c) ∗ rides c) ⊢ iprop(StableHlo.held (c : Thread nD τ) (Pipeline.ucRefs τ sig) (W3 m c) ∗ rides c)
    rw [V3_eq]
  · show iprop(StableHlo.held (c : Thread nD τ) (Pipeline.ucRefs τ sig) (W4 m c) ∗ rides c) ⊢ iprop(StableHlo.held (c : Thread nD τ) (Pipeline.ucRefs τ sig) (V4 m (outs m) c) ∗ rides c)
    rw [V4_eq]
  · show iprop(StableHlo.held (c : Thread nD τ) (Pipeline.ucRefs τ sig) (V5 m (outs m) c) ∗ rides c) ⊢ iprop(StableHlo.held (c : Thread nD τ) (Pipeline.ucRefs τ sig) (W5 m c) ∗ rides c)
    rw [V5_eq]
  · exact .rfl
  · show iprop(StableHlo.held (c : Thread nD τ) (Pipeline.ucRefs τ sig) (W7 m c) ∗ rides c) ⊢ iprop(StableHlo.held (c : Thread nD τ) (Pipeline.ucRefs τ sig) (V7 m (outs m) c) ∗ rides c)
    rw [V7_eq]
  · unfold StableHlo.held
    iintro ⟨Hh, HSI⟩
    ihave Hr := (pointsTo_read_all (Pipeline.ucRefs τ sig) (fun b => ((c : Thread nD τ).1, b)) (W8 m c) s') $$ [Hh HSI]
    · isplitl [Hh] <;> iassumption
    icases Hr with ⟨%h, HSI⟩
    imodintro
    isplitr
    · ipureintro
      exact ⟨⟨(h _ (unscoped_mem main_arg0 rfl)).trans (V8_main_arg0 m (outs m) c),
        (h _ (unscoped_mem main_arg1 rfl)).trans (V8_main_arg1 m (outs m) c),
        (h _ (unscoped_mem main_arg2 rfl)).trans (V8_main_arg2 m (outs m) c)⟩,
        h _ (unscoped_mem main_v10 rfl), h _ (unscoped_mem main_v11 rfl)⟩
    · iexact HSI

/-- The frame: what is claimed of the run when its results are left out. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (run m ρ) fun _ h => ⟨fun c => (h.1 c).1, h.2⟩

end Cert.KernelIdeal.Run

end
-- ==== Proof.Pick.lean ====
/- Taking the greatest entries of a finite family one after the other, the lower key first among equals. -/
module

public import Mathlib.Data.EReal.Basic
public import Mathlib.Data.Fintype.Card
public import Mathlib.Data.Fintype.EquivFin

@[expose] public section

namespace Cert.Pick

/-- Entry `a` comes before entry `b`: it is greater, or they are equal and its key is lower. -/
def before {ι : Type} (x : ι → EReal) (k : ι → ℕ) (a b : ι) : Prop := x b < x a ∨ (x a = x b ∧ k a < k b)

section Order

variable {ι : Type} {x : ι → EReal} {k : ι → ℕ} {a b c : ι}

theorem before.trans (h : before x k a b) (h' : before x k b c) : before x k a c := by
  rcases h with h | ⟨h, l⟩ <;> rcases h' with h' | ⟨h', l'⟩
  · exact .inl (h'.trans h)
  · exact .inl (h' ▸ h)
  · exact .inl (h ▸ h')
  · exact .inr ⟨h.trans h', l.trans l'⟩

theorem before.le (h : before x k a b) : x b ≤ x a := by
  rcases h with h | ⟨h, -⟩
  · exact h.le
  · exact h.ge

theorem before.not_swap (h : before x k a b) (h' : before x k b a) : False := by
  rcases h.trans h' with h | ⟨-, h⟩
  · exact lt_irrefl _ h
  · exact lt_irrefl _ h

end Order

/-- `f` names the first `N` entries in order: each different from those before it, and before all that are left. -/
structure Firsts {ι : Type} (x : ι → EReal) (k : ι → ℕ) (N : ℕ) (f : ℕ → ι) : Prop where
  new : ∀ n < N, ∀ j < n, f j ≠ f n
  best : ∀ n < N, ∀ i, (∀ j < n, f j ≠ i) → i ≠ f n → before x k (f n) i

theorem Firsts.ne {ι : Type} {x : ι → EReal} {k : ι → ℕ} {N : ℕ} {f : ℕ → ι} (h : Firsts x k N f) {i j : ℕ} (hi : i < N)
    (hj : j < N) (hij : i ≠ j) : f i ≠ f j := by
  rcases Nat.lt_or_gt_of_ne hij with l | l
  · exact h.new j hj i l
  · exact (h.new i hi j l).symm

theorem Firsts.ordered {ι : Type} {x : ι → EReal} {k : ι → ℕ} {N : ℕ} {f : ℕ → ι} (h : Firsts x k N f) {i j : ℕ}
    (hj : j < N) (hij : i < j) : before x k (f i) (f j) :=
  h.best i (hij.trans hj) (f j) (fun l hl => h.new j hj l (hl.trans hij)) (h.new j hj i hij).symm

/-- The selection that marks what it took with `z`: at step `n` the first entry of what is left. -/
structure Marks {ι : Type} (z : EReal) (k : ι → ℕ) (N : ℕ) (c : ℕ → ι → EReal) (f : ℕ → ι) : Prop where
  here : ∀ n < N, c (n + 1) (f n) = z
  away : ∀ n < N, ∀ i, i ≠ f n → c (n + 1) i = c n i
  best : ∀ n < N, ∀ i, i ≠ f n → before (c n) k (f n) i

section Marks

variable {ι : Type} {z : EReal} {k : ι → ℕ} {N : ℕ} {c : ℕ → ι → EReal} {f : ℕ → ι} (h : Marks z k N c f)
include h

/-- What is taken holds the mark, -/
theorem Marks.taken : ∀ n ≤ N, ∀ j < n, c n (f j) = z
  | 0, _, j, hj => absurd hj (Nat.not_lt_zero j)
  | n + 1, hn, j, hj => by
    by_cases e : f j = f n
    · rw [e]; exact h.here n hn
    · rw [h.away n hn _ e]
      have hjn : j < n := lt_of_le_of_ne (Nat.le_of_lt_succ hj) fun e' => e (e' ▸ rfl)
      exact Marks.taken n (Nat.le_of_succ_le hn) j hjn

/-- and the rest is untouched. -/
theorem Marks.rest : ∀ n ≤ N, ∀ i, (∀ j < n, f j ≠ i) → c n i = c 0 i
  | 0, _, _, _ => rfl
  | n + 1, hn, i, hi => by
    rw [h.away n hn i (hi n (Nat.lt_succ_self n)).symm]
    exact Marks.rest n (Nat.le_of_succ_le hn) i fun j hj => hi j (hj.trans (Nat.lt_succ_self n))

/-- With entries all above the mark, and enough of them, no entry is taken twice, -/
theorem Marks.fresh [Fintype ι] (hz : ∀ i, z < c 0 i) (hN : N ≤ Fintype.card ι) (n : ℕ) (hn : n < N) (j : ℕ) (hj : j < n) : f j ≠ f n := by
  classical
  intro e
  obtain ⟨i, hi⟩ : ∃ i, i ∉ (Finset.range n).image f := by
    by_contra hc
    push Not at hc
    have hu : (Finset.range n).image f = Finset.univ := Finset.eq_univ_iff_forall.mpr hc
    have h1 := Finset.card_image_le (s := Finset.range n) (f := f)
    rw [hu, Finset.card_univ, Finset.card_range] at h1
    exact absurd (hN.trans h1) (Nat.not_le.mpr hn)
  have hi' : ∀ j < n, f j ≠ i := fun j hj e => hi (Finset.mem_image.mpr ⟨j, Finset.mem_range.mpr hj, e⟩)
  have hin : i ≠ f n := fun e' => hi' j hj (e.trans e'.symm)
  have hb := (h.best n hn i hin).le
  rw [h.rest n hn.le i hi', ← e, h.taken n hn.le j hj] at hb
  exact absurd (hz i) hb.not_gt

/-- and the marked selection names the first entries in order. -/
theorem Marks.firsts [Fintype ι] (hz : ∀ i, z < c 0 i) (hN : N ≤ Fintype.card ι) : Firsts (c 0) k N f where
  new := h.fresh hz hN
  best n hn i hi hne := by
    have hb := h.best n hn i hne
    have e₁ : c n i = c 0 i := h.rest n hn.le i hi
    have e₂ : c n (f n) = c 0 (f n) := h.rest n hn.le _ fun j hj => h.fresh hz hN n hn j hj
    unfold before at hb ⊢
    rwa [e₁, e₂] at hb

/-- The entry taken at step `n` is read as it was. -/
theorem Marks.value [Fintype ι] (hz : ∀ i, z < c 0 i) (hN : N ≤ Fintype.card ι) {n : ℕ} (hn : n < N) : c n (f n) = c 0 (f n) :=
  h.rest n hn.le _ fun j hj => h.fresh hz hN n hn j hj

/-- What does not hold the mark at the end was never taken. -/
theorem Marks.not_taken {i : ι} (hi : c N i ≠ z) (n : ℕ) (hn : n < N) : f n ≠ i :=
  fun e => hi (e ▸ h.taken N le_rfl n hn)

end Marks

/-- Selecting among some of the entries is selecting among all, if every other entry comes after one of `L`, and none of `L` is
    taken. -/
theorem Firsts.of_candidates {ι κ : Type} {x : ι → EReal} {k : ι → ℕ} {N : ℕ} {f : ℕ → κ} (col : κ → ι)
    (hinj : Function.Injective col) (L : κ → Prop) (hL : ∀ i, (∃ q, col q = i) ∨ ∃ q, L q ∧ before x k (col q) i)
    (h : Firsts (fun q => x (col q)) (fun q => k (col q)) N f) (hf : ∀ n < N, ¬ L (f n)) : Firsts x k N fun n => col (f n) where
  new n hn j hj e := h.new n hn j hj (hinj e)
  best n hn i hi hne := by
    have sub : ∀ q, (∀ j < n, f j ≠ q) → q ≠ f n → before x k (col (f n)) (col q) := fun q hq hqn => h.best n hn q hq hqn
    rcases hL i with ⟨q, rfl⟩ | ⟨q, hq, hb⟩
    · exact sub q (fun j hj e => hi j hj (e ▸ rfl)) fun e => hne (e ▸ rfl)
    · exact (sub q (fun j hj e => hf j (hj.trans hn) (e ▸ hq)) fun e => hf n hn (e ▸ hq)).trans hb

/-- The first entries of a family are the first of a larger one that orders them alike and puts all others after them. -/
theorem Firsts.of_part {ι κ : Type} {x : κ → EReal} {k : κ → ℕ} {y : ι → EReal} {k' : ι → ℕ} {N : ℕ} {f : ℕ → κ} (e : κ → ι)
    (hinj : Function.Injective e) (hb : ∀ a b, before x k a b → before y k' (e a) (e b))
    (ho : ∀ a i, (∀ b, e b ≠ i) → before y k' (e a) i) (h : Firsts x k N f) : Firsts y k' N fun n => e (f n) where
  new n hn j hj he := h.new n hn j hj (hinj he)
  best n hn i hi hne := by
    by_cases hx : ∃ b, e b = i
    · obtain ⟨b, rfl⟩ := hx
      exact hb _ _ (h.best n hn b (fun j hj he => hi j hj (he ▸ rfl)) fun he => hne (he ▸ rfl))
    · exact ho _ i fun b hb => hx ⟨b, hb⟩

end Cert.Pick

end
-- ==== Proof.Lane.lean ====
/- One extraction read at a row: the entry it takes is the first in order, and it alone is marked. -/
module

public import proofs.«01_k».proof.Proof.Span
public import proofs.«01_k».proof.Proof.Triple
public import proofs.«01_k».proof.Proof.Pick
public import Idealize.ShloMosaic.PureOps.Reduce
public import Idealize.ShloMosaic.PureOps.Ideal.Laws
public import Idealize.ShloMosaic.Lib.ValueIdx
public import Idealize.ShloMosaic.Lib.ValueLayout
public import Idealize.ShloMosaic.Lib.ValueLayoutCasts

@[expose] public section

noncomputable section

namespace Cert.Span

open Idealize.ShloMosaic Idealize.ShloMosaic.ValueIdx Cert.Pick

/-! ## Folds of a choice between two -/

/-- A fold of an operation that returns one of its two operands returns the start or an entry. -/
theorem fold_mem {ι α : Type} [DecidableEq ι] (op : α → α → α) [Std.Commutative op] [Std.Associative op] (h : ∀ a b, op a b = a ∨ op a b = b) (b : α)
    (f : ι → α) (s : Finset ι) : s.fold op b f = b ∨ ∃ i ∈ s, s.fold op b f = f i := by
  induction s using Finset.induction_on with
  | empty => exact .inl rfl
  | insert a s ha ih =>
    rw [Finset.fold_insert ha]
    rcases h (f a) (s.fold op b f) with e | e <;> rw [e]
    · exact .inr ⟨a, Finset.mem_insert_self _ _, rfl⟩
    · rcases ih with ih | ⟨i, hi, ih⟩
      · exact .inl ih
      · exact .inr ⟨i, Finset.mem_insert_of_mem hi, ih⟩

/-- And where the operation descends to the lesser, the fold is at most each entry. -/
theorem fold_le {ι α : Type} [DecidableEq ι] (op : α → α → α) [Std.Commutative op] [Std.Associative op] (le : α → α → Prop)
    (hl : ∀ a b, le (op a b) a) (htr : ∀ a b c, le a b → le b c → le a c) (b : α) (f : ι → α) (s : Finset ι) :
    ∀ i ∈ s, le (s.fold op b f) (f i) := by
  induction s using Finset.induction_on with
  | empty => intro i hi; exact absurd hi (Finset.notMem_empty i)
  | insert a s ha ih =>
    intro i hi
    rw [Finset.fold_insert ha]
    rcases Finset.mem_insert.mp hi with rfl | hi
    · exact hl _ _
    · refine htr _ _ _ ?_ (ih i hi)
      rw [Std.Commutative.comm (op := op)]
      exact hl _ _

theorem minsi_or (a b : BitVec 32) : IntOp.minsi a b = a ∨ IntOp.minsi a b = b := by
  unfold IntOp.minsi; split <;> simp

theorem minsi_le (a b : BitVec 32) : (IntOp.minsi a b).toInt ≤ a.toInt := by
  unfold IntOp.minsi
  split
  · rfl
  · rename_i h
    simp only [BitVec.slt, decide_eq_true_eq] at h
    omega

/-! ## The operations of an extraction at a row -/

/-- The indices of a matrix that a reduction of its rows sends to row `r`. -/
theorem drop_row {n : Nat} (hr : (sh 256 n).Reduces [1] s256) (r : Fin 256) (i : (sh 256 n).Idx) : hr.drop i = ix1 r ↔ i 0 = r := by
  have h : (hr.drop i 0 : Nat) = i 0 := hr.drop_apply_val_of_eq i 0 0 Nat.one_pos rfl
  constructor
  · intro e
    rw [e] at h
    exact Fin.ext h.symm
  · intro e
    funext d
    match d with
    | ⟨0, _⟩ => exact Fin.ext (h.trans (congrArg Fin.val e))

/-- A column of numbers broadcast along its rows. -/
theorem bcol {α : Type} {n : Nat} (x : (sh 256 1).Idx → α) (hb : (sh 256 1).Broadcasts (sh 256 n)) (r : Fin 256) (q : Fin n) :
    broadcastTo (sh 256 n) x hb (ix2 r q) = x (ix2 r 0) := by
  unfold broadcastTo
  congr 1
  funext a
  match a with
  | ⟨0, _⟩ => rfl
  | ⟨1, _⟩ => rfl

/-- The greatest score of a row bounds the row and is in it. -/
theorem rmax_spec {n : Nat} (hn : 0 < n) (hr : (sh 256 n).Reduces [1] s256) (c : FVec Ideal (sh 256 n) .f32) (r : Fin 256) :
    (∀ q, c (ix2 r q) ≤ rmax hr c (ix1 r)) ∧ ∃ q, rmax hr c (ix1 r) = c (ix2 r q) := by
  classical
  have e : rmax hr c (ix1 r) = (Finset.univ.filter fun i => hr.drop i = ix1 r).fold max (⊥ : EReal) c := by
    refine (multiReduction_maximumf_eq_fold c _ hr _ _ (ix1 r)).trans ?_
    congr 1
  have hm : ∀ q : Fin n, ix2 r q ∈ Finset.univ.filter fun i => hr.drop i = ix1 r := fun q =>
    Finset.mem_filter.mpr ⟨Finset.mem_univ _, (drop_row hr r _).mpr rfl⟩
  have hle : ∀ q, c (ix2 r q) ≤ rmax hr c (ix1 r) := fun q => by
    rw [e]
    exact Finset.le_fold_max _ |>.mpr (.inr ⟨_, hm q, le_rfl⟩)
  refine ⟨hle, ?_⟩
  rcases fold_mem (max : EReal → EReal → EReal) (fun a b => max_choice a b) ⊥ c (Finset.univ.filter fun i => hr.drop i = ix1 r) with h | ⟨i, hi, h⟩
  · refine ⟨⟨0, hn⟩, ?_⟩
    have h0 := hle ⟨0, hn⟩
    rw [e, h] at h0 ⊢
    exact (le_bot_iff.mp h0).symm
  · have h0 := (drop_row hr r i).mp (Finset.mem_filter.mp hi).2
    refine ⟨i 1, ?_⟩
    rw [e, h, ← h0]
    exact congrArg c (eq_ix2 i)

/-- A select between two by equality of scores. -/
theorem select_oeq {s : Shape} {α : Type} (a b : FVec Ideal s .f32) (x y : s.Idx → α) (i : s.Idx) [Decidable (a i = b i)] :
    select (cmpf .oeq a b) x y i = if a i = b i then x i else y i := by
  show Scalar.select (Ideal.cmp .oeq (a i) (b i)) (x i) (y i) = _
  by_cases h : a i = b i <;> simp [h, Scalar.select, Ideal.cmp]

/-- A select between two by a strict comparison of scores. -/
theorem select_ogt {s : Shape} {α : Type} (a b : FVec Ideal s .f32) (x y : s.Idx → α) (i : s.Idx) [Decidable (b i < a i)] :
    select (cmpf .ogt a b) x y i = if b i < a i then x i else y i := by
  show Scalar.select (Ideal.cmp .ogt (a i) (b i)) (x i) (y i) = _
  by_cases h : b i < a i <;> simp [h, Scalar.select, Ideal.cmp]

/-- A select between two by equality of words. -/
theorem select_eq {s : Shape} {α : Type} (a b : IVec s 32) (x y : s.Idx → α) (i : s.Idx) :
    select (cmpi .eq a b) x y i = if a i = b i then x i else y i := by
  show Scalar.select (BitVec.ofBool (a i == b i)) (x i) (y i) = _
  by_cases h : a i = b i
  · rw [if_pos h]; exact if_pos (by simp [h])
  · rw [if_neg h]; exact if_neg (by rw [beq_eq_false_iff_ne.mpr h]; decide)

theorem toInt_ofNat {k : ℕ} (h : k < 2 ^ 31) : (BitVec.ofNat 32 k).toInt = k := by
  rw [BitVec.toInt_eq_toNat_of_lt] <;> simp only [BitVec.toNat_ofNat] <;> omega

theorem ofNat_inj {a b : ℕ} (ha : a < 2 ^ 31) (hb : b < 2 ^ 31) (h : BitVec.ofNat 32 a = BitVec.ofNat 32 b) : a = b := by
  have := congrArg BitVec.toInt h
  rw [toInt_ofNat ha, toInt_ofNat hb] at this
  exact Int.ofNat.inj this

section Row

variable {n : Nat} (hn : 0 < n) (hr : (sh 256 n).Reduces [1] s256) (hc : s256.ShapeCasts (sh 256 1)) (hb : (sh 256 1).Broadcasts (sh 256 n))
  (N : ℕ) (hN : N < 2 ^ 31) (g : IVec (sh 256 n) 32) (c : FVec Ideal (sh 256 n) .f32) (r : Fin 256)
  (col : Fin n → ℕ) (hg : ∀ q, g (ix2 r q) = BitVec.ofNat 32 (col q)) (hcol : ∀ q, col q < N)
include hn hN hg hcol

/-- The column an extraction takes at a row: of those holding the greatest score the least. -/
theorem rarg_spec : ∃ q, c (ix2 r q) = rmax hr c (ix1 r) ∧ rarg hr hc hb (BitVec.ofNat 32 N) g c (ix1 r) = BitVec.ofNat 32 (col q)
    ∧ ∀ q', c (ix2 r q') = rmax hr c (ix1 r) → col q ≤ col q' := by
  classical
  set src : IVec (sh 256 n) 32 := select (cmpf .oeq c (broadcastTo (sh 256 n) (shapeCast (sh 256 1) (rmax hr c) hc) hb)) g (broadcast (sh 256 n) (BitVec.ofNat 32 N)) with hsrc
  have e : rarg hr hc hb (BitVec.ofNat 32 N) g c (ix1 r) = (Finset.univ.filter fun i => hr.drop i = ix1 r).fold IntOp.minsi 2147483647#32 src :=
    multiReductionI_eq_fold .minsi src _ hr _ (ix1 r)
  have hs : ∀ q, src (ix2 r q) = if c (ix2 r q) = rmax hr c (ix1 r) then BitVec.ofNat 32 (col q) else BitVec.ofNat 32 N := fun q => by
    rw [hsrc, select_oeq, bcol, shapeCast_a_a1_apply, hg]
    rfl
  have hm : ∀ q : Fin n, ix2 r q ∈ Finset.univ.filter fun i => hr.drop i = ix1 r := fun q =>
    Finset.mem_filter.mpr ⟨Finset.mem_univ _, (drop_row hr r _).mpr rfl⟩
  have hle : ∀ q, c (ix2 r q) = rmax hr c (ix1 r) → (rarg hr hc hb (BitVec.ofNat 32 N) g c (ix1 r)).toInt ≤ col q := fun q hq => by
    have h := fold_le IntOp.minsi (fun a b => a.toInt ≤ b.toInt) minsi_le (fun _ _ _ => le_trans) 2147483647#32 src _ _ (hm q)
    rw [e]
    rw [hs, if_pos hq, toInt_ofNat ((hcol q).trans hN)] at h
    exact h
  obtain ⟨q₀, h₀⟩ := (rmax_spec hn hr c r).2
  have hlt : (rarg hr hc hb (BitVec.ofNat 32 N) g c (ix1 r)).toInt < N := lt_of_le_of_lt (hle q₀ h₀.symm) (by exact_mod_cast hcol q₀)
  rcases fold_mem IntOp.minsi minsi_or 2147483647#32 src (Finset.univ.filter fun i => hr.drop i = ix1 r) with h | ⟨i, hi, h⟩
  · rw [e, h, show (2147483647#32).toInt = 2147483647 from rfl] at hlt
    omega
  · obtain ⟨q, rfl⟩ : ∃ q, i = ix2 r q := by
      have h0 := (drop_row hr r i).mp (Finset.mem_filter.mp hi).2
      exact ⟨i 1, h0 ▸ eq_ix2 i⟩
    have hq := hs q
    rw [← h, ← e] at hq
    by_cases hc' : c (ix2 r q) = rmax hr c (ix1 r)
    · rw [if_pos hc'] at hq
      refine ⟨q, hc', hq, fun q' h' => ?_⟩
      have := hle q' h'
      rw [hq, toInt_ofNat ((hcol _).trans hN)] at this
      exact_mod_cast this
    · rw [if_neg hc'] at hq
      rw [hq, toInt_ofNat hN] at hlt
      exact absurd hlt (lt_irrefl _)

variable (hinj : Function.Injective col)
include hinj

/-- An extraction takes the first entry of the row in order, and marks it alone. -/
theorem take_spec : ∃ q, rmax hr c (ix1 r) = c (ix2 r q) ∧ rarg hr hc hb (BitVec.ofNat 32 N) g c (ix1 r) = BitVec.ofNat 32 (col q)
    ∧ (∀ i, i ≠ q → before (fun i => c (ix2 r i)) col q i)
    ∧ ∀ i, rdrop hr hc hb (BitVec.ofNat 32 N) g c (ix2 r i) = if i = q then (Scalar.ofBits .f32 0xFF7FC99E#32 : Ideal .f32) else c (ix2 r i) := by
  obtain ⟨q, h₁, h₂, h₃⟩ := rarg_spec hn hr hc hb N hN g c r col hg hcol
  refine ⟨q, h₁.symm, h₂, fun i hi => ?_, fun i => ?_⟩
  · have hm := (rmax_spec hn hr c r).1 i
    rw [← h₁] at hm
    rcases lt_or_eq_of_le hm with l | l
    · exact .inl l
    · exact .inr ⟨l.symm, lt_of_le_of_ne (h₃ i (l.trans h₁)) fun e => hi (hinj e).symm⟩
  · unfold rdrop
    rw [select_eq, bcol, shapeCast_a_a1_apply, hg, h₂]
    by_cases e : i = q
    · rw [if_pos e, if_pos (by rw [e])]; rfl
    · rw [if_neg e, if_neg fun h => e (hinj (ofNat_inj ((hcol i).trans hN) ((hcol q).trans hN) h))]

end Row

end Cert.Span

end
-- ==== Proof.Select.lean ====
/- The two extraction loops read at a row: each leaves in its accumulators the first fifty entries in order. -/
module

public import proofs.«01_k».proof.Proof.Lane

@[expose] public section

noncomputable section

namespace Cert.Span

open Idealize.ShloMosaic Idealize.ShloMosaic.ValueIdx Cert.Pick

/-- The mark, as the extended real it is. -/
abbrev markR : EReal := (Scalar.ofBits .f32 0xFF7FC99E#32 : Ideal .f32)

/-- The accumulators' columns are numbered from zero. -/
theorem colk_apply (S : Shapes) (r : Fin 256) (j : Fin 64) : colk S (ix2 r j) = BitVec.ofNat 32 j := by
  show BitVec.ofNat 32 (0 * 64 + j.val) = _
  rw [Nat.zero_mul, Nat.zero_add]

theorem iv_eq (t : ℕ) : Scf.iv 0#32 1#32 t = BitVec.ofNat 32 t := by
  unfold Scf.iv
  simp

/-- A column put into an accumulator, read at a row. -/
theorem putcol_apply {α : Type} (S : Shapes) {t : ℕ} (ht : t < 64) (x : s256.Idx → α) (acc : (sh 256 64).Idx → α) (r : Fin 256) (j : Fin 64) :
    putcol S (colk S) (BitVec.ofNat 32 t) (shapeCast (sh 256 1) x S.cast1) acc (ix2 r j) = if j.val = t then x (ix1 r) else acc (ix2 r j) := by
  unfold putcol
  rw [select_eq, bcol, colk_apply, shapeCast_self, shapeCast_a_a1_apply]
  show (if BitVec.ofNat 32 j.val = BitVec.ofNat 32 t then _ else _) = _
  by_cases h : j.val = t
  · rw [if_pos h, if_pos (by rw [h])]
  · rw [if_neg h, if_neg fun e => h (ofNat_inj (by omega) (by omega) e)]

section Extracts

variable {F : FTy → Type} [FloatOps F] {n : Nat} (S : Shapes) (hr : (sh 256 n).Reduces [1] s256) (hb : (sh 256 1).Broadcasts (sh 256 n)) (big : BitVec 32)
  (g : IVec (sh 256 n) 32)

/-- The state of the extraction after `t` extractions from `e`. -/
def extractN (e : Ext F n) : ℕ → Ext F n
  | 0 => e
  | t + 1 => extract S hr hb big g (colk S) (BitVec.ofNat 32 t) (extractN e t)

end Extracts

theorem fullN_eq {F : FTy → Type} [FloatOps F] {W vc : Nat} (S : Shapes) (H : Wide W vc) (s : FVec F (sh 256 W) .f32) (t : ℕ) :
    fullN S H s t = extractN S H.red H.bc (BitVec.ofNat 32 W) (colI W H.io₁) ⟨s, (acc0 (F := F)).1, (acc0 (F := F)).2⟩ t := by
  induction t with
  | zero => rfl
  | succ t ih => rw [fullN, extractN, ih, iv_eq]

theorem extracts_eq {F : FTy → Type} [FloatOps F] (S : Shapes) (g : IVec (sh 256 512) 32) (e : Ext F 512) (n u : ℕ) :
    extracts S g (Scf.iv 0#32 1#32 n) (extractN S S.red512 S.bc512 1073741824#32 g e (25 * n)) u
      = extractN S S.red512 S.bc512 1073741824#32 g e (25 * n + u) := by
  induction u with
  | zero => rfl
  | succ u ih =>
    rw [extracts, ih, ← Nat.add_assoc, extractN, iv_eq]
    congr 1
    show BitVec.ofNat 32 n * 25#32 + BitVec.ofNat 32 u = _
    rw [Nat.mul_comm, BitVec.ofNat_add, BitVec.ofNat_mul]

theorem fastN_eq {F : FTy → Type} [FloatOps F] (S : Shapes) (cs : FVec F (sh 256 512) .f32) (gs : IVec (sh 256 512) 32) (n : ℕ) :
    fastN S cs gs n = extractN S S.red512 S.bc512 1073741824#32 gs ⟨cs, (acc0 (F := F)).1, (acc0 (F := F)).2⟩ (25 * n) := by
  induction n with
  | zero => rfl
  | succ n ih => rw [fastN, ih, extracts_eq]; rfl

section Row

variable {n : Nat} (S : Shapes) (hr : (sh 256 n).Reduces [1] s256) (hb : (sh 256 1).Broadcasts (sh 256 n))
  (N : ℕ) (hN : N < 2 ^ 31) (g : IVec (sh 256 n) 32) (e : Ext Ideal n) (r : Fin 256)
  (col : Fin n → ℕ) (hg : ∀ q, g (ix2 r q) = BitVec.ofNat 32 (col q)) (hcol : ∀ q, col q < N) (hinj : Function.Injective col)
  (hz : ∀ q, markR < e.c (ix2 r q)) (hn : 50 ≤ n)
include hN hg hcol hinj hz hn

/-- Fifty extractions at a row: the entries taken, and what is left of the row and put in the accumulators. -/
theorem extractN_spec : ∃ f : ℕ → Fin n,
    Firsts (fun q => (e.c (ix2 r q) : EReal)) col 50 f
    ∧ (∀ j (h : j < 50), (extractN S hr hb (BitVec.ofNat 32 N) g e 50).s (ix2 r ⟨j, by omega⟩) = e.c (ix2 r (f j)))
    ∧ (∀ j (h : j < 50), (extractN S hr hb (BitVec.ofNat 32 N) g e 50).i (ix2 r ⟨j, by omega⟩) = BitVec.ofNat 32 (col (f j)))
    ∧ ∀ q, (extractN S hr hb (BitVec.ofNat 32 N) g e 50).c (ix2 r q) ≠ markR → ∀ j < 50, f j ≠ q := by
  have hs := fun t => take_spec (by omega : 0 < n) hr S.cast1 hb N hN g (extractN S hr hb (BitVec.ofNat 32 N) g e t).c r col hg hcol hinj
  choose f h₁ h₂ h₃ h₄ using hs
  have hM : Marks markR col 50 (fun t q => ((extractN S hr hb (BitVec.ofNat 32 N) g e t).c (ix2 r q) : EReal)) f := {
    here := fun t _ => (h₄ t (f t)).trans (if_pos rfl)
    away := fun t _ q hq => (h₄ t q).trans (if_neg hq)
    best := fun t _ q hq => h₃ t q hq }
  have hcard : 50 ≤ Fintype.card (Fin n) := by rwa [Fintype.card_fin]
  have hacc : ∀ t ≤ 50, ∀ j (h : j < 50), j < t →
      (extractN S hr hb (BitVec.ofNat 32 N) g e t).s (ix2 r ⟨j, by omega⟩) = e.c (ix2 r (f j))
      ∧ (extractN S hr hb (BitVec.ofNat 32 N) g e t).i (ix2 r ⟨j, by omega⟩) = BitVec.ofNat 32 (col (f j)) := by
    intro t
    induction t with
    | zero => intro _ j _ hj; exact absurd hj (Nat.not_lt_zero j)
    | succ t ih =>
      intro ht j h hj
      have hs : (extractN S hr hb (BitVec.ofNat 32 N) g e (t + 1)).s (ix2 r ⟨j, by omega⟩) = _ := putcol_apply S (by omega : t < 64) (rmax hr (extractN S hr hb (BitVec.ofNat 32 N) g e t).c) (extractN S hr hb (BitVec.ofNat 32 N) g e t).s r ⟨j, by omega⟩
      have hi : (extractN S hr hb (BitVec.ofNat 32 N) g e (t + 1)).i (ix2 r ⟨j, by omega⟩) = _ := putcol_apply S (by omega : t < 64) (rarg hr S.cast1 hb (BitVec.ofNat 32 N) g (extractN S hr hb (BitVec.ofNat 32 N) g e t).c) (extractN S hr hb (BitVec.ofNat 32 N) g e t).i r ⟨j, by omega⟩
      rw [hs, hi]
      by_cases hjt : j = t
      · subst hjt
        rw [if_pos rfl, if_pos rfl, h₁, h₂]
        exact ⟨hM.value hz hcard h, rfl⟩
      · rw [if_neg hjt, if_neg hjt]
        exact ih (by omega) j h (by omega)
  exact ⟨f, hM.firsts hz hcard, fun j h => (hacc 50 le_rfl j h h).1, fun j h => (hacc 50 le_rfl j h h).2, fun q hq j hj => hM.not_taken hq j hj⟩

end Row

end Cert.Span

end
-- ==== Proof.Cands.lean ====
/- The eight rounds read at a row and a class of columns: they name the class's first eight entries in order. -/
module

public import proofs.«01_k».proof.Proof.Select
public import Idealize.ShloMosaic.Lib.Pipeline.Value
public import Mathlib.Data.Fintype.Prod

@[expose] public section

noncomputable section

namespace Cert.Span

open Idealize.ShloMosaic Idealize.ShloMosaic.ValueIdx Cert.Pick

/-- The lane of half `b` that belongs to class `l`. -/
def lane (b : Fin 2) (l : Fin 64) : Fin 128 := ⟨64 * b.val + l.val, by omega⟩

/-- The number, in groups of 64, of half `b` of column group `v`. -/
def key {vc : Nat} (p : Fin vc × Fin 2) : ℕ := 2 * p.1.val + p.2.val

theorem key_inj {vc : Nat} : Function.Injective (key (vc := vc)) := fun p q h => by
  unfold key at h
  have h₁ : p.1.val = q.1.val := by omega
  have h₂ : p.2.val = q.2.val := by omega
  exact Prod.ext (Fin.ext h₁) (Fin.ext h₂)

theorem key_lt {vc : Nat} (hv : vc ≤ 32) (p : Fin vc × Fin 2) : key p < 64 := by
  unfold key; omega

variable {vc : Nat} (S : Shapes) (h0 : 0 < vc) (hv : vc ≤ 32)

/-- The entries of a class at a row. -/
def ent (vals : (v : Nat) → v < vc → FVec Ideal (sh 256 128) .f32) (r : Fin 256) (l : Fin 64) (p : Fin vc × Fin 2) : EReal :=
  vals p.1.val p.1.isLt (ix2 r (lane p.2 l))

theorem half_word : ∀ (b : Fin 2) (l : Fin 64), (BitVec.ofBool (BitVec.sle 64#32 (BitVec.ofNat 32 (lane b l).val))).setWidth 32 = BitVec.ofNat 32 b.val := by
  decide

theorem half_apply (r : Fin 256) (b : Fin 2) (l : Fin 64) : half S.io (ix2 r (lane b l)) = BitVec.ofNat 32 b.val := by
  rw [← half_word b l]
  show (BitVec.ofBool (BitVec.sle 64#32 (BitVec.ofNat 32 (0 * 128 + (lane b l).val)))).setWidth 32 = _
  rw [Nat.zero_mul, Nat.zero_add]

theorem part_apply (v : ℕ) (r : Fin 256) (b : Fin 2) (l : Fin 64) : part S.io v (ix2 r (lane b l)) = BitVec.ofNat 32 (2 * v + b.val) := by
  show half S.io (ix2 r (lane b l)) + BitVec.ofNat 32 (2 * v) = _
  rw [half_apply S, ← BitVec.ofNat_add, Nat.add_comm]

/-- The running maximum at a row and a lane. -/
theorem scan_spec (vals : (v : Nat) → v < vc → FVec Ideal (sh 256 128) .f32) (r : Fin 256) (b : Fin 2) (l : Fin 64) :
    ∀ v (h : v < vc), ∃ u : Fin vc, u.val ≤ v ∧ (scan S.io vals v h).1 (ix2 r (lane b l)) = ent vals r l (u, b)
      ∧ (scan S.io vals v h).2 (ix2 r (lane b l)) = BitVec.ofNat 32 (key (u, b))
      ∧ ∀ w : Fin vc, w.val ≤ v → w ≠ u → before (ent vals r l) key (u, b) (w, b)
  | 0, h => ⟨⟨0, h⟩, le_rfl, rfl, (half_apply S r b l).trans (by unfold key; rw [Nat.mul_zero, Nat.zero_add]),
      fun w hw hne => absurd (Fin.ext (Nat.le_zero.mp hw)) hne⟩
  | v + 1, h => by
    classical
    obtain ⟨u, hu, e₁, e₂, hb⟩ := scan_spec vals r b l v (Nat.lt_of_succ_lt h)
    have s₁ := select_ogt (vals (v + 1) h) (scan S.io vals v (Nat.lt_of_succ_lt h)).1 (vals (v + 1) h) (scan S.io vals v (Nat.lt_of_succ_lt h)).1 (ix2 r (lane b l))
    have s₂ := select_ogt (vals (v + 1) h) (scan S.io vals v (Nat.lt_of_succ_lt h)).1 (part S.io (v + 1)) (scan S.io vals v (Nat.lt_of_succ_lt h)).2 (ix2 r (lane b l))
    by_cases hlt : (scan S.io vals v (Nat.lt_of_succ_lt h)).1 (ix2 r (lane b l)) < vals (v + 1) h (ix2 r (lane b l))
    · rw [if_pos hlt] at s₁ s₂
      refine ⟨⟨v + 1, h⟩, le_rfl, s₁, s₂.trans (part_apply S (v + 1) r b l), fun w hw hne => ?_⟩
      have hw' : w.val ≤ v := Nat.le_of_lt_succ (lt_of_le_of_ne hw fun e => hne (Fin.ext e))
      refine .inl ?_
      rw [e₁] at hlt
      refine lt_of_le_of_lt ?_ hlt
      by_cases hwu : w = u
      · rw [hwu]
      · exact (hb w hw' hwu).le
    · rw [if_neg hlt] at s₁ s₂
      refine ⟨u, hu.trans (Nat.le_succ v), s₁.trans e₁, s₂.trans e₂, fun w hw hne => ?_⟩
      by_cases hw' : w.val ≤ v
      · exact hb w hw' hne
      · obtain rfl : w = ⟨v + 1, h⟩ := Fin.ext (by show w.val = v + 1; omega)
        rw [e₁] at hlt
        rcases lt_or_eq_of_le (not_lt.mp hlt) with l' | l'
        · exact .inl l'
        · refine .inr ⟨l'.symm, ?_⟩
          show 2 * u.val + b.val < 2 * (v + 1) + b.val
          omega

theorem slice_lane {α : Type} (x : (sh 256 128).Idx → α) (r : Fin 256) (l : Fin 64) :
    extractStridedSlice (sh 256 64) ![0, 0] x S.sl.1 (ix2 r l) = x (ix2 r (lane 0 l))
    ∧ extractStridedSlice (sh 256 64) ![0, 64] x S.sl.2 (ix2 r l) = x (ix2 r (lane 1 l)) := by
  constructor <;>
  · unfold extractStridedSlice
    congr 1
    funext a
    match a with
    | ⟨0, _⟩ => exact Fin.ext (Nat.zero_add _)
    | ⟨1, _⟩ => exact Fin.ext rfl

theorem or_and_word (P Q R : Prop) [Decidable P] [Decidable Q] [Decidable R] :
    (BitVec.ofBool (decide P) ||| (BitVec.ofBool (decide Q) &&& BitVec.ofBool (decide R))) = 1 ↔ P ∨ (Q ∧ R) := by
  by_cases h₁ : P <;> by_cases h₂ : Q <;> by_cases h₃ : R <;> simp [h₁, h₂, h₃]

/-- Which half a round takes, at a row and a class. -/
theorem take_apply (p : FVec Ideal (sh 256 128) .f32 × IVec (sh 256 128) 32) (r : Fin 256) (l : Fin 64) {a b : ℕ} (ha : a < 2 ^ 31) (hb : b < 2 ^ 31)
    (ea : p.2 (ix2 r (lane 0 l)) = BitVec.ofNat 32 a) (eb : p.2 (ix2 r (lane 1 l)) = BitVec.ofNat 32 b) :
    take S.sl S.sl p (ix2 r l) = 1 ↔ p.1 (ix2 r (lane 0 l)) < p.1 (ix2 r (lane 1 l))
      ∨ (p.1 (ix2 r (lane 1 l)) = p.1 (ix2 r (lane 0 l)) ∧ b < a) := by
  classical
  have e : take S.sl S.sl p (ix2 r l) = BitVec.ofBool (decide (p.1 (ix2 r (lane 0 l)) < p.1 (ix2 r (lane 1 l))))
      ||| (BitVec.ofBool (decide (p.1 (ix2 r (lane 1 l)) = p.1 (ix2 r (lane 0 l)))) &&& BitVec.ofBool (decide (b < a))) := by
    have e₁ : BitVec.slt (BitVec.ofNat 32 b) (BitVec.ofNat 32 a) = decide (b < a) := by
      unfold BitVec.slt
      rw [toInt_ofNat ha, toInt_ofNat hb]
      simp
    rw [← e₁, ← ea, ← eb, ← (slice_lane S p.1 r l).1, ← (slice_lane S p.1 r l).2, ← (slice_lane S p.2 r l).1, ← (slice_lane S p.2 r l).2]
    show Ideal.cmp .ogt _ _ ||| (Ideal.cmp .oeq _ _ &&& _) = _
    unfold Ideal.cmp
    congr!
  rw [e]
  exact or_and_word _ _ _

include hv in
/-- A round at a row and a class: the first entry in order. -/
theorem round_spec (vals : (v : Nat) → v < vc → FVec Ideal (sh 256 128) .f32) (r : Fin 256) (l : Fin 64) : ∃ p : Fin vc × Fin 2,
    (round S h0 vals).1 (ix2 r l) = ent vals r l p ∧ (round S h0 vals).2 (ix2 r l) = BitVec.ofNat 32 (key p)
    ∧ ∀ q, q ≠ p → before (ent vals r l) key p q := by
  obtain ⟨u, -, u₁, u₂, hu⟩ := scan_spec S vals r 0 l (vc - 1) (Nat.sub_one_lt (Nat.pos_iff_ne_zero.mp h0))
  obtain ⟨w, -, w₁, w₂, hw⟩ := scan_spec S vals r 1 l (vc - 1) (Nat.sub_one_lt (Nat.pos_iff_ne_zero.mp h0))
  have ht := take_apply S (scan S.io vals (vc - 1) (Nat.sub_one_lt (Nat.pos_iff_ne_zero.mp h0))) r l
    ((key_lt hv (u, 0)).trans (by decide)) ((key_lt hv (w, 1)).trans (by decide)) u₂ w₂
  rw [u₁, w₁] at ht
  have s₁ : (round S h0 vals).1 (ix2 r l) = if take S.sl S.sl (scan S.io vals (vc - 1) (Nat.sub_one_lt (Nat.pos_iff_ne_zero.mp h0))) (ix2 r l) = 1
      then ent vals r l (w, 1) else ent vals r l (u, 0) := by
    rw [← u₁, ← w₁, ← (slice_lane S (scan S.io vals (vc - 1) (Nat.sub_one_lt (Nat.pos_iff_ne_zero.mp h0))).1 r l).1, ← (slice_lane S (scan S.io vals (vc - 1) (Nat.sub_one_lt (Nat.pos_iff_ne_zero.mp h0))).1 r l).2]
    rfl
  have s₂ : (round S h0 vals).2 (ix2 r l) = if take S.sl S.sl (scan S.io vals (vc - 1) (Nat.sub_one_lt (Nat.pos_iff_ne_zero.mp h0))) (ix2 r l) = 1
      then BitVec.ofNat 32 (key (w, (1 : Fin 2))) else BitVec.ofNat 32 (key (u, (0 : Fin 2))) := by
    rw [← u₂, ← w₂, ← (slice_lane S (scan S.io vals (vc - 1) (Nat.sub_one_lt (Nat.pos_iff_ne_zero.mp h0))).2 r l).1, ← (slice_lane S (scan S.io vals (vc - 1) (Nat.sub_one_lt (Nat.pos_iff_ne_zero.mp h0))).2 r l).2]
    rfl
  have cases2 : ∀ q : Fin vc × Fin 2, q = (q.1, 0) ∨ q = (q.1, 1) := fun q => by
    rcases q with ⟨v, b⟩
    match b with
    | 0 => exact .inl rfl
    | 1 => exact .inr rfl
  have within : ∀ (b : Fin 2) (x : Fin vc), (∀ y : Fin vc, y.val ≤ vc - 1 → y ≠ x → before (ent vals r l) key (x, b) (y, b)) →
      ∀ y, (y, b) ≠ (x, b) → before (ent vals r l) key (x, b) (y, b) := fun b x h y hy => h y (by omega) fun e => hy (by rw [e])
  have cross : ∀ (b b' : Fin 2) (x x' : Fin vc), (∀ y, (y, b) ≠ (x, b) → before (ent vals r l) key (x, b) (y, b)) →
      (∀ y, (y, b') ≠ (x', b') → before (ent vals r l) key (x', b') (y, b')) → before (ent vals r l) key (x, b) (x', b') →
      ∀ y, before (ent vals r l) key (x, b) (y, b') := fun b b' x x' _ h' hb y => by
    by_cases e : (y, b') = (x', b')
    · rw [e]; exact hb
    · exact hb.trans (h' y e)
  by_cases h : take S.sl S.sl (scan S.io vals (vc - 1) (Nat.sub_one_lt (Nat.pos_iff_ne_zero.mp h0))) (ix2 r l) = 1
  · have hb : before (ent vals r l) key (w, 1) (u, 0) := ht.mp h
    rw [if_pos h] at s₁ s₂
    refine ⟨(w, 1), s₁, s₂, fun q hq => ?_⟩
    rcases cases2 q with e | e
    · rw [e]; exact cross 1 0 w u (within 1 w hw) (within 0 u hu) hb q.1
    · rw [e] at hq ⊢; exact within 1 w hw q.1 hq
  · have hb : before (ent vals r l) key (u, 0) (w, 1) := by
      have hn := fun hx => h (ht.mpr hx)
      rcases lt_trichotomy (ent vals r l (u, 0)) (ent vals r l (w, 1)) with l' | l' | l'
      · exact absurd (.inl l') hn
      · refine .inr ⟨l', lt_of_le_of_ne (not_lt.mp fun k => hn (.inr ⟨l'.symm, k⟩)) fun k => ?_⟩
        exact absurd (congrArg (fun p : Fin vc × Fin 2 => p.2.val) (key_inj k)) Nat.zero_ne_one
      · exact .inl l'
    rw [if_neg h] at s₁ s₂
    refine ⟨(u, 0), s₁, s₂, fun q hq => ?_⟩
    rcases cases2 q with e | e
    · rw [e] at hq ⊢; exact within 0 u hu q.1 hq
    · rw [e]; exact cross 0 1 u w (within 0 u hu) (within 1 w hw) hb q.1

end Cert.Span

end
-- ==== Proof.Rows.lean ====
/- A block's results at a row: the first fifty entries of the row in order, whichever of the two extractions gave them. -/
module

public import proofs.«01_k».proof.Proof.Cands
public import Idealize.ShloMosaic.Lib.IdealHost

@[expose] public section

noncomputable section

namespace Cert.Span

open Idealize.ShloMosaic Idealize.ShloMosaic.ValueIdx Cert.Pick

variable {vc : Nat} (S : Shapes)

/-! ## The rounds -/

/-- A round's numbers, laid twice side by side, at a lane. -/
theorem twice_apply (cp : IVec (sh 256 64) 32) (r : Fin 256) (b : Fin 2) (l : Fin 64) :
    concatenate (sh 256 128) 1 [⟨sh 256 64, cp⟩, ⟨sh 256 64, cp⟩] S.cc (ix2 r (lane b l)) = cp (ix2 r l) := by
  refine concatenate_ofFn_apply (t := sh 256 128) (s₁ := sh 256 64) 1 (fun _ : Fin 2 => cp) S.cc rfl 64 rfl (ix2 r (lane b l)) b ?_ (ix2 r l) ?_ ?_
  · show (64 * b.val + l.val) / 64 = b.val
    omega
  · show l.val = (64 * b.val + l.val) % 64
    omega
  · intro a ha
    match a with
    | ⟨0, _⟩ => rfl
    | ⟨1, _⟩ => exact absurd rfl ha

/-- What a round marks: the entry it named, alone. -/
theorem mark_apply (hv : vc ≤ 32) (vals : (v : Nat) → v < vc → FVec Ideal (sh 256 128) .f32) (cp : IVec (sh 256 64) 32) (r : Fin 256) (l : Fin 64) (p q : Fin vc × Fin 2)
    (hp : cp (ix2 r l) = BitVec.ofNat 32 (key p)) : ent (mark S cp vals) r l q = if q = p then markR else ent vals r l q := by
  have e : ent (mark S cp vals) r l q = if BitVec.ofNat 32 (key p) = BitVec.ofNat 32 (key q) then markR else ent vals r l q := by
    unfold ent mark
    rw [select_eq, twice_apply S, hp]
    rw [show part S.io q.1.val (ix2 r (lane q.2 l)) = BitVec.ofNat 32 (key q) from part_apply S q.1.val r q.2 l]
    rfl
  rw [e]
  by_cases h : q = p
  · rw [if_pos h, if_pos (by rw [h])]
  · rw [if_neg h, if_neg fun k => h (key_inj (ofNat_inj ((key_lt hv p).trans (by decide)) ((key_lt hv q).trans (by decide)) k)).symm]

/-- The eight rounds at a row and a class: the first eight entries of the class in order, each as it was. -/
theorem cand_spec (h0 : 0 < vc) (hv : vc ≤ 32) (vals : (v : Nat) → v < vc → FVec Ideal (sh 256 128) .f32) (r : Fin 256) (l : Fin 64) (h4 : 4 ≤ vc)
    (hz : ∀ p, markR < ent vals r l p) : ∃ f : ℕ → Fin vc × Fin 2, Firsts (ent vals r l) key 8 f
      ∧ ∀ t < 8, (cand S h0 vals t).1 (ix2 r l) = ent vals r l (f t) ∧ (cand S h0 vals t).2 (ix2 r l) = BitVec.ofNat 32 (key (f t)) := by
  have hs := fun t => round_spec S h0 hv (left S h0 vals t) r l
  choose f h₁ h₂ h₃ using hs
  have hm := fun t q => mark_apply S hv (left S h0 vals t) (round S h0 (left S h0 vals t)).2 r l (f t) q (h₂ t)
  have hM : Marks markR key 8 (fun t => ent (left S h0 vals t) r l) f := {
    here := fun t _ => (hm t (f t)).trans (if_pos rfl)
    away := fun t _ q hq => (hm t q).trans (if_neg hq)
    best := fun t _ q hq => h₃ t q hq }
  have hcard : 8 ≤ Fintype.card (Fin vc × Fin 2) := by
    rw [Fintype.card_prod, Fintype.card_fin, Fintype.card_fin]; omega
  exact ⟨f, hM.firsts hz hcard, fun t ht => ⟨(h₁ t).trans (hM.value hz hcard ht), h₂ t⟩⟩

/-! ## The candidates side by side -/

/-- Eight columns of 64 side by side, read at candidate `64 t + l`. -/
theorem eight_apply {α : Type} (x : Fin 8 → (sh 256 64).Idx → α) (r : Fin 256) (q : Fin 512) :
    concatenate (sh 256 512) 1 [⟨sh 256 64, x 0⟩, ⟨sh 256 64, x 1⟩, ⟨sh 256 64, x 2⟩, ⟨sh 256 64, x 3⟩, ⟨sh 256 64, x 4⟩, ⟨sh 256 64, x 5⟩,
      ⟨sh 256 64, x 6⟩, ⟨sh 256 64, x 7⟩] S.c8 (ix2 r q) = x ⟨q.val / 64, by omega⟩ (ix2 r ⟨q.val % 64, by omega⟩) := by
  refine concatenate_ofFn_apply (t := sh 256 512) (s₁ := sh 256 64) 1 x S.c8 rfl 64 rfl (ix2 r q) ⟨q.val / 64, by omega⟩ rfl (ix2 r ⟨q.val % 64, by omega⟩) rfl ?_
  intro a ha
  match a with
  | ⟨0, _⟩ => rfl
  | ⟨1, _⟩ => exact absurd rfl ha

theorem candS_apply (h0 : 0 < vc) (vals : (v : Nat) → v < vc → FVec Ideal (sh 256 128) .f32) (r : Fin 256) (q : Fin 512) :
    candS S h0 vals (ix2 r q) = (cand S h0 vals (q.val / 64)).1 (ix2 r ⟨q.val % 64, by omega⟩) :=
  eight_apply S (fun t => (cand S h0 vals t.val).1) r q

theorem gcol_apply (cp : IVec (sh 256 64) 32) (r : Fin 256) (l : Fin 64) {k : ℕ} (h : cp (ix2 r l) = BitVec.ofNat 32 k) :
    gcol S cp (ix2 r l) = BitVec.ofNat 32 (64 * k + l.val) := by
  show cp (ix2 r l) * 64#32 + BitVec.ofNat 32 (0 * 64 + l.val) = _
  rw [h, Nat.zero_mul, Nat.zero_add, BitVec.ofNat_add, BitVec.ofNat_mul, BitVec.mul_comm]

theorem candI_apply (h0 : 0 < vc) (vals : (v : Nat) → v < vc → FVec Ideal (sh 256 128) .f32) (r : Fin 256) (q : Fin 512) {k : ℕ}
    (h : (cand S h0 vals (q.val / 64)).2 (ix2 r ⟨q.val % 64, by omega⟩) = BitVec.ofNat 32 k) :
    candI S h0 vals (ix2 r q) = BitVec.ofNat 32 (64 * k + q.val % 64) :=
  (eight_apply S (fun t => gcol S (cand S h0 vals t.val).2) r q).trans (gcol_apply S _ r _ h)

/-! ## The flag -/

theorem last64_apply (Z : Sizes) (x : Vec Ideal (sh 256 512) .f32) (r : Fin 256) (l : Fin 64) : last64 (F := Ideal) Z x (ix2 r l) = x (ix2 r ⟨448 + l.val, by omega⟩) := by
  unfold last64
  congr 1
  funext a
  match a with
  | ⟨0, _⟩ => exact Fin.ext (by simp [Rect.unit, LoadRect.idx])
  | ⟨1, _⟩ => exact Fin.ext (by simp [Rect.unit, LoadRect.idx])

theorem one_pos : (0 : EReal) < (Scalar.ofBits .f32 0x3F800000#32 : Ideal .f32) := by
  rw [show (Scalar.ofBits .f32 0x3F800000#32 : Ideal .f32) = Ideal.ofBits .f32 0x3F800000#32 from rfl, Ideal.ofBits_one_f32]
  exact zero_lt_one

theorem extract_cast (x : FVec Ideal ⟨1, ![1]⟩ .f32) : ∃ j, extractAt ![0, 0, 0] (shapeCast ⟨3, ![1, 1, 1]⟩ x S.cast4) S.inp = x j :=
  ⟨Shape.reshapeEquiv S.cast4 _, rfl⟩

theorem one_idx (a b : (⟨1, ![1]⟩ : Shape).Idx) : a = b := by
  funext i
  match i with
  | ⟨0, _⟩ => exact Subsingleton.elim (α := Fin 1) _ _

/-- The greatest entry of a block is at least each. -/
theorem peak_ge (c n : FVec Ideal (sh 256 64) .f32) (r : Fin 256) (l : Fin 64) (h : c (ix2 r l) = n (ix2 r l)) :
    (0 : EReal) < extractAt ![0, 0, 0] (peak S c n) S.inp := by
  classical
  refine lt_of_lt_of_le one_pos ?_
  obtain ⟨j, hj⟩ := extract_cast S (multiReduction (F := Ideal) .maximumf [1, 2] ⟨1, ![1]⟩
    (shapeCast ⟨3, ![1, 256, 64]⟩ (select (cmpf .oeq c n) (broadcast (sh 256 64) (Scalar.ofBits (F := Ideal) .f32 0x3F800000#32))
      (broadcast (sh 256 64) (Scalar.ofBits .f32 0x00000000#32))) S.cast3) 0xFF800000#32 S.red3 (.inl rfl) rfl)
  unfold peak
  rw [hj]
  set src : FVec Ideal (sh 256 64) .f32 := select (cmpf .oeq c n) (broadcast (sh 256 64) (Scalar.ofBits (F := Ideal) .f32 0x3F800000#32))
        (broadcast (sh 256 64) (Scalar.ofBits .f32 0x00000000#32)) with hsrc
  have e : src (ix2 r l) = (Scalar.ofBits .f32 0x3F800000#32 : Ideal .f32) := by
    rw [hsrc, select_oeq, if_pos h]; rfl
  have e3 : shapeCast ⟨3, ![1, 256, 64]⟩ src S.cast3 (ix3 0 r l) = src (ix2 r l) := shapeCast_ab_1ab_apply src S.cast3 _ _ _
  have hm := multiReduction_maximumf_eq_fold (F := Ideal) (φ := .f32) (shapeCast ⟨3, ![1, 256, 64]⟩ src S.cast3) 0xFF800000#32 S.red3 (.inl rfl) rfl j
  refine le_trans ?_ (le_of_eq hm.symm)
  rw [← e, ← e3]
  refine (Finset.le_fold_max _).mpr (.inr ⟨ix3 0 r l, Finset.mem_filter.mpr ⟨Finset.mem_univ _, ?_⟩, le_rfl⟩)
  exact one_idx _ _

theorem ogt_zero (p : Ideal .f32) (h : (0 : EReal) < p) : Scalar.cmpf (F := Ideal) (φ := .f32) .ogt p (Scalar.ofBits .f32 0x00000000#32) = 1#1 := by
  show Ideal.cmp .ogt p (Ideal.ofBits .f32 0x00000000#32) = 1#1
  rw [Ideal.ofBits_zero_f32]
  simp [Ideal.cmp, h]

theorem bad_of (c n : FVec Ideal (sh 256 64) .f32) (r : Fin 256) (l : Fin 64) (h : c (ix2 r l) = n (ix2 r l)) : badOf S (peak S c n) = 1#1 := by
  have hp := peak_ge S c n r l h
  unfold badOf
  rw [ogt_zero _ hp]
  rfl

/-! ## The results -/

section Result

variable {W : Nat} (H : Wide W vc) (Z : Sizes) (s : FVec Ideal (sh 256 W) .f32) (r : Fin 256)

/-- The score as it is put out: below the least score, the infinity. -/
def shown (x : EReal) : EReal :=
  haveI := Classical.propDecidable
  if x < (Scalar.ofBits .f32 0xEFA18F08#32 : Ideal .f32) then (Scalar.ofBits .f32 0xFF800000#32 : Ideal .f32) else x

theorem select_olt {s : Shape} {α : Type} (a b : FVec Ideal s .f32) (x y : s.Idx → α) (i : s.Idx) [Decidable (a i < b i)] :
    select (cmpf .olt a b) x y i = if a i < b i then x i else y i := by
  show Scalar.select (Ideal.cmp .olt (a i) (b i)) (x i) (y i) = _
  by_cases h : a i < b i <;> simp [h, Scalar.select, Ideal.cmp]

theorem slice50 {α : Type} (a : (sh 256 64).Idx → α) (j : Fin 50) : extractStridedSlice (sh 256 50) ![0, 0] a S.sl50 (ix2 r j) = a (ix2 r ⟨j.val, by omega⟩) := by
  unfold extractStridedSlice
  congr 1
  funext i
  match i with
  | ⟨0, _⟩ => exact Fin.ext (Nat.zero_add _)
  | ⟨1, _⟩ => exact Fin.ext (Nat.zero_add _)

theorem outS_apply (a : FVec Ideal (sh 256 64) .f32) (j : Fin 50) : outS S a (ix2 r j) = shown (a (ix2 r ⟨j.val, by omega⟩)) := by
  classical
  have h := select_olt (extractStridedSlice (sh 256 50) ![0, 0] a S.sl50) (broadcast (sh 256 50) (Scalar.ofBits (F := Ideal) .f32 0xEFA18F08#32))
    (broadcast (sh 256 50) (Scalar.ofBits (F := Ideal) .f32 0xFF800000#32)) (extractStridedSlice (sh 256 50) ![0, 0] a S.sl50) (ix2 r j)
  refine h.trans ?_
  rw [slice50 S]
  unfold shown
  congr!

theorem outI_apply (a : IVec (sh 256 64) 32) (j : Fin 50) : outI S a (ix2 r j) = a (ix2 r ⟨j.val, by omega⟩) := slice50 S r a j

variable (hW : W = 128 * vc) (h4 : 4 ≤ vc) (hv : vc ≤ 32)

/-- The column of an entry of a class. -/
def place (p : Fin vc × Fin 2) (l : Fin 64) : Fin W := ⟨64 * key p + l.val, by have := key_lt hv p; unfold key; omega⟩

theorem ent_groups (l : Fin 64) (p : Fin vc × Fin 2) : ent (groups H.sl s) r l p = s (ix2 r (place hW hv p l)) := by
  unfold ent groups extractStridedSlice
  congr 1
  funext i
  match i with
  | ⟨0, _⟩ => exact Fin.ext (Nat.zero_add _)
  | ⟨1, _⟩ =>
    refine Fin.ext ?_
    show 128 * p.1.val + (64 * p.2.val + l.val) = 64 * (2 * p.1.val + p.2.val) + l.val
    omega

theorem place_inj {p p' : Fin vc × Fin 2} {l l' : Fin 64} (h : place (W := W) hW hv p l = place hW hv p' l') : p = p' ∧ l = l' := by
  have e : 64 * key p + l.val = 64 * key p' + l'.val := congrArg Fin.val h
  have hl : l = l' := Fin.ext (by omega)
  exact ⟨key_inj (by subst hl; omega), hl⟩

theorem place_surj (i : Fin W) : ∃ p l, place hW hv p l = i := by
  refine ⟨(⟨i.val / 128, by omega⟩, ⟨i.val / 64 % 2, by omega⟩), ⟨i.val % 64, by omega⟩, Fin.ext ?_⟩
  show 64 * (2 * (i.val / 128) + i.val / 64 % 2) + i.val % 64 = i.val
  omega

include hW h4 hv in
/-- A block's results at a row whose scores are all above the mark: the first fifty columns in order of their scores. -/
theorem row_spec (hz : ∀ i, markR < s (ix2 r i)) : ∃ f : ℕ → Fin W, Firsts (fun i => (s (ix2 r i) : EReal)) Fin.val 50 f
    ∧ ∀ j : Fin 50, resS S H Z s (ix2 r j) = shown (s (ix2 r (f j))) ∧ resI S H Z s (ix2 r j) = BitVec.ofNat 32 (f j) := by
  classical
  unfold resS resI
  by_cases ha : again S H Z s
  · obtain ⟨f, h₁, h₂, h₃, -⟩ := extractN_spec S H.red H.bc W (by omega) (colI W H.io₁) ⟨s, (acc0 (F := Ideal)).1, (acc0 (F := Ideal)).2⟩ r Fin.val
      (fun q => by show BitVec.ofNat 32 (0 * W + q.val) = _; rw [Nat.zero_mul, Nat.zero_add]) (fun q => q.isLt) Fin.val_injective hz (by omega)
    refine ⟨f, h₁, fun j => ?_⟩
    rw [if_pos ha, if_pos ha, outS_apply, outI_apply, fullN_eq]
    exact ⟨congrArg shown (h₂ j j.isLt), h₃ j j.isLt⟩
  · have hc := fun l => cand_spec S H.h0 hv (groups H.sl s) r l h4 fun p => by rw [ent_groups H s r hW hv]; exact hz _
    choose F hF hF₂ using hc
    let col : Fin 512 → Fin W := fun q => place hW hv (F ⟨q.val % 64, by omega⟩ (q.val / 64)) ⟨q.val % 64, by omega⟩
    have hS : ∀ q, candS S H.h0 (groups H.sl s) (ix2 r q) = s (ix2 r (col q)) := fun q => by
      rw [candS_apply, (hF₂ _ _ (by omega)).1, ent_groups H s r hW hv]
    have hI : ∀ q, candI S H.h0 (groups H.sl s) (ix2 r q) = BitVec.ofNat 32 (col q).val := fun q =>
      candI_apply S H.h0 (groups H.sl s) r q (hF₂ _ _ (by omega)).2
    have hinj : Function.Injective col := fun q q' h => by
      obtain ⟨hp, hl⟩ := place_inj hW hv h
      have hl' : q.val % 64 = q'.val % 64 := congrArg Fin.val hl
      rw [← hl] at hp
      by_contra hne
      exact (hF _).ne (i := q.val / 64) (j := q'.val / 64) (by omega) (by omega) (fun e => hne (Fin.ext (by omega))) hp
    obtain ⟨f, h₁, h₂, h₃, h₅⟩ := extractN_spec S S.red512 S.bc512 1073741824 (by norm_num) (candI S H.h0 (groups H.sl s))
      ⟨candS S H.h0 (groups H.sl s), (acc0 (F := Ideal)).1, (acc0 (F := Ideal)).2⟩ r (fun q => (col q).val) hI (fun q => by omega)
      (Fin.val_injective.comp hinj) (fun q => lt_of_lt_of_eq (hz _) (hS q).symm) (by norm_num)
    have hlast : ∀ n < 50, ¬ 448 ≤ (f n).val := by
      intro n hn hq
      refine h₅ (f n) (fun e => ha ?_) n hn rfl
      have hb := bad_of S (last64 (F := Ideal) Z (fastN S (candS S H.h0 (groups H.sl s)) (candI S H.h0 (groups H.sl s)) 2).c) (neg 256 64) r
        ⟨(f n).val - 448, by omega⟩
      refine hb ?_
      have hfn : (⟨448 + ((f n).val - 448), by omega⟩ : Fin 512) = f n := Fin.ext (by show 448 + ((f n).val - 448) = (f n).val; omega)
      rw [last64_apply, hfn, fastN_eq, show 25 * 2 = 50 from rfl]
      exact e
    refine ⟨fun n => col (f n), Firsts.of_candidates col hinj (fun q => 448 ≤ q.val) ?_ ?_ hlast, fun j => ?_⟩
    · intro i
      obtain ⟨p, l, rfl⟩ := place_surj hW hv i
      by_cases hp : ∃ t < 8, F l t = p
      · obtain ⟨t, ht, rfl⟩ := hp
        refine .inl ⟨⟨64 * t + l.val, by omega⟩, ?_⟩
        have e₁ : (64 * t + l.val) % 64 = l.val := by omega
        have e₂ : (64 * t + l.val) / 64 = t := by omega
        simp only [col, e₁, e₂]
      · refine .inr ⟨⟨448 + l.val, by omega⟩, by show 448 ≤ 448 + l.val; omega, ?_⟩
        have e₁ : (448 + l.val) % 64 = l.val := by omega
        have e₂ : (448 + l.val) / 64 = 7 := by omega
        have hb := (hF l).best 7 (by norm_num) p (fun j hj e => hp ⟨j, by omega, e⟩) fun e => hp ⟨7, by norm_num, e.symm⟩
        simp only [col, e₁, e₂]
        unfold before at hb ⊢
        rw [ent_groups H s r hW hv, ent_groups H s r hW hv] at hb
        refine hb.imp id fun h => ⟨h.1, ?_⟩
        have hk : key (F l 7) < key p := h.2
        show 64 * key (F l 7) + l.val < 64 * key p + l.val
        omega
    · have e : (fun q => (candS S H.h0 (groups H.sl s) (ix2 r q) : EReal)) = fun q => (s (ix2 r (col q)) : EReal) := funext hS
      rw [← e]
      exact h₁
    · rw [if_neg ha, if_neg ha, outS_apply, outI_apply, fastN_eq, show 25 * 2 = 50 from rfl]
      exact ⟨congrArg shown ((h₂ j j.isLt).trans (hS _)), h₃ j j.isLt⟩

end Result

end Cert.Span

end
-- ==== Proof.Mask.lean ====
/- The masked scores of a row against the reference's: the same first entries in order, at the same values. -/
module

public import proofs.«01_k».proof.Proof.Rows

@[expose] public section

noncomputable section

namespace Cert.Span

open Idealize.ShloMosaic Idealize.ShloMosaic.ValueIdx Cert.Pick

theorem c30 : (Scalar.ofBits .f32 0xF149F2CA#32 : Ideal .f32) = ((-1000000015047466219876688855040 : ℝ) : EReal) := by
  show Ideal.ofBits .f32 0xF149F2CA#32 = _
  simp [Ideal.ofBits, Ideal.ieee, -EReal.coe_mul]; norm_num

theorem c24 : (Scalar.ofBits .f32 0x6753C21C#32 : Ideal .f32) = ((1000000013848427855085568 : ℝ) : EReal) := by
  show Ideal.ofBits .f32 0x6753C21C#32 = _
  simp [Ideal.ofBits, Ideal.ieee, -EReal.coe_mul]; norm_num

theorem c29 : (Scalar.ofBits .f32 0xEFA18F08#32 : Ideal .f32) = ((-100000001504746621987668885504 : ℝ) : EReal) := by
  show Ideal.ofBits .f32 0xEFA18F08#32 = _
  simp [Ideal.ofBits, Ideal.ieee, -EReal.coe_mul]; norm_num

theorem c38 : markR = ((-339999995214436424907732413799364296704 : ℝ) : EReal) := by
  show Ideal.ofBits .f32 0xFF7FC99E#32 = _
  simp [Ideal.ofBits, Ideal.ieee, -EReal.coe_mul]; norm_num

theorem cinf : (Scalar.ofBits .f32 0xFF800000#32 : Ideal .f32) = (⊥ : EReal) := by
  show Ideal.ofBits .f32 0xFF800000#32 = _
  simp [Ideal.ofBits, Ideal.ieee]

/-- What a masked column holds. -/
def maskv (i : ℕ) : EReal := (((-1000000015047466219876688855040 : ℝ) - (i : ℝ) * (1000000013848427855085568 : ℝ) : ℝ) : EReal)

theorem mask_word (i : ℕ) (hi : i < 2 ^ 31) : (FloatOps.subf (Scalar.ofBits .f32 0xF149F2CA#32 : Ideal .f32)
    (FloatOps.mulf (FloatOps.sitofp .f32 (BitVec.ofNat 32 i)) (Scalar.ofBits .f32 0x6753C21C#32 : Ideal .f32)) : Ideal .f32) = maskv i := by
  rw [c30, c24]
  have e : (FloatOps.sitofp .f32 (BitVec.ofNat 32 i) : Ideal .f32) = ((i : ℝ) : EReal) := by
    show (((BitVec.ofNat 32 i).toInt : ℝ) : EReal) = _
    rw [toInt_ofNat hi]
    norm_cast
  rw [e]
  show ((_ : ℝ) : EReal) - ((_ : ℝ) : EReal) * ((_ : ℝ) : EReal) = _
  unfold maskv
  push_cast
  rfl

theorem maskv_lt {i j : ℕ} (h : maskv j < maskv i) : i < j := by
  unfold maskv at h
  have h' := EReal.coe_lt_coe_iff.mp h
  by_contra hc
  have : (j : ℝ) ≤ i := by exact_mod_cast not_lt.mp hc
  nlinarith

theorem mark_lt_maskv {i : ℕ} (hi : i < 4096) : markR < maskv i := by
  rw [c38]
  unfold maskv
  refine EReal.coe_lt_coe_iff.mpr ?_
  have : (i : ℝ) ≤ 4096 := by exact_mod_cast hi.le
  nlinarith

theorem maskv_lt_least (i : ℕ) : maskv i < (Scalar.ofBits .f32 0xEFA18F08#32 : Ideal .f32) := by
  rw [c29]
  unfold maskv
  refine EReal.coe_lt_coe_iff.mpr ?_
  have : (0 : ℝ) ≤ i := Nat.cast_nonneg i
  nlinarith

theorem mark_lt_least : markR < (Scalar.ofBits .f32 0xEFA18F08#32 : Ideal .f32) := by
  rw [c38, c29]
  exact EReal.coe_lt_coe_iff.mpr (by norm_num)

theorem bot_lt_least : (⊥ : EReal) < (Scalar.ofBits .f32 0xEFA18F08#32 : Ideal .f32) := by
  rw [c29]
  exact EReal.bot_lt_coe _

section Transfer

variable {W : ℕ} (hW : W ≤ 4096) (R : ℕ) (hR : R < W) (sc : Fin 4096 → EReal)
  (hs : ∀ i : Fin 4096, i.val < R → (Scalar.ofBits .f32 0xEFA18F08#32 : Ideal .f32) ≤ sc i)

/-- A row of masked scores, as the kernel holds it. -/
def rowK (i : Fin W) : EReal := if i.val < R then sc (i.castLE hW) else maskv i

/-- A row of masked scores, as the reference holds it. -/
def rowR (i : Fin 4096) : EReal := if i.val < R then sc i else ⊥

include hs in
theorem rowK_above (i : Fin W) : markR < rowK hW R sc i := by
  unfold rowK
  split
  · next h => exact lt_of_lt_of_le mark_lt_least (hs _ h)
  · exact mark_lt_maskv (by omega)

include hs in
/-- What the kernel puts out for an entry is the reference's entry. -/
theorem shown_rowK (i : Fin W) : shown (rowK hW R sc i) = rowR R sc (i.castLE hW) := by
  unfold shown rowK rowR
  by_cases h : i.val < R
  · rw [if_pos h, if_pos (show (i.castLE hW).val < R from h), if_neg (not_lt.mpr (hs _ h))]
  · rw [if_neg h, if_neg (show ¬ (i.castLE hW).val < R from h), if_pos (maskv_lt_least _), cinf]

include hs hR in
/-- The first entries of the kernel's row are the first of the reference's. -/
theorem firsts_row {N : ℕ} {f : ℕ → Fin W} (h : Firsts (rowK hW R sc) Fin.val N f) :
    Firsts (rowR R sc) Fin.val N fun n => (f n).castLE hW := by
  refine h.of_part (fun i : Fin W => i.castLE hW) (fun a b e => Fin.ext (congrArg (fun z : Fin 4096 => z.val) e)) ?_ ?_
  · intro a b hb
    unfold before rowK at hb
    unfold before rowR
    by_cases ha : a.val < R <;> by_cases hb' : b.val < R
    · simpa [ha, hb'] using hb
    · refine .inl ?_
      rw [if_neg (show ¬ (b.castLE hW).val < R from hb'), if_pos (show (a.castLE hW).val < R from ha)]
      exact lt_of_lt_of_le bot_lt_least (hs _ ha)
    · rw [if_neg ha, if_pos hb'] at hb
      have hlt : maskv a < sc (b.castLE hW) := lt_of_lt_of_le (maskv_lt_least _) (hs _ hb')
      rcases hb with hb | ⟨hb, -⟩
      · exact absurd hb hlt.not_gt
      · exact absurd hb hlt.ne
    · refine .inr ⟨?_, ?_⟩
      · rw [if_neg (show ¬ (a.castLE hW).val < R from ha), if_neg (show ¬ (b.castLE hW).val < R from hb')]
      · rw [if_neg ha, if_neg hb'] at hb
        exact hb.elim maskv_lt And.right
  · intro a i hi
    have hiW : W ≤ i.val := by
      by_contra hc
      exact hi ⟨i.val, not_le.mp hc⟩ rfl
    unfold before rowR
    rw [if_neg (show ¬ i.val < R by omega)]
    by_cases ha : a.val < R
    · refine .inl ?_
      rw [if_pos (show (a.castLE hW).val < R from ha)]
      exact lt_of_lt_of_le bot_lt_least (hs _ ha)
    · refine .inr ⟨by rw [if_neg (show ¬ (a.castLE hW).val < R from ha)], ?_⟩
      show a.val < i.val
      omega

end Transfer

end Cert.Span

end
-- ==== Proof.Score.lean ====
/- A block's masked scores at an entry: the bilinear form where the column is below the row, the mask elsewhere. -/
module

public import proofs.«01_k».proof.Proof.Mask
public import Idealize.ShloMosaic.Lib.MatmulPlain

@[expose] public section

noncomputable section

namespace Cert.Span

open Idealize.ShloMosaic Idealize.ShloMosaic.ValueIdx Cert.Pick
open scoped BigOperators

/-- A select between two by a signed comparison of small naturals. -/
theorem slt_nat {a b : ℕ} (ha : a < 2 ^ 31) (hb : b < 2 ^ 31) {α : Type} (x y : α) :
    Scalar.select (IntOp.cmpi .slt (BitVec.ofNat 32 a) (BitVec.ofNat 32 b)) x y = if a < b then x else y := by
  have e : (BitVec.ofNat 32 a).slt (BitVec.ofNat 32 b) = decide (a < b) := by
    unfold BitVec.slt
    rw [toInt_ofNat ha, toInt_ofNat hb]
    exact decide_eq_decide.mpr Int.ofNat_lt
  show Scalar.select (BitVec.ofBool ((BitVec.ofNat 32 a).slt (BitVec.ofNat 32 b))) x y = _
  rw [e]
  by_cases h : a < b <;> simp [h, Scalar.select]

/-- The bilinear form of row `x` and row `y`: `((x W) + b) · y`. -/
def form (x : Fin 1024 → EReal) (w : Fin 1024 → Fin 1024 → EReal) (b : Fin 1024 → EReal) (y : Fin 1024 → EReal) : EReal :=
  ∑ k, ((∑ j, x j * w j k) + b k) * y k

theorem bias_apply (b : Vec Ideal (sh 1 1024) .f32) (h₂ : (sh 1 1024).ShapeCasts (sh 1 1024)) (h₃ : (sh 1 1024).Broadcasts (sh 256 1024))
    (r : Fin 256) (k : Fin 1024) : broadcastTo (sh 256 1024) (shapeCast (sh 1 1024) b h₂) h₃ (ix2 r k) = b (ix2 0 k) := by
  rw [shapeCast_self]
  exact broadcastTo_1b_ab_apply b h₃ r k

theorem scores_apply {W : ℕ} (hW : W ≤ 4096) (base : BitVec 32) (B : ℕ) (hB : B < 16) (hbase : base = BitVec.ofNat 32 B)
    (h₁ : (sh 1024 1024).ShapeCasts (sh 1024 1024))
    (h₂ : (sh 1 1024).ShapeCasts (sh 1 1024)) (h₃ : (sh 1 1024).Broadcasts (sh 256 1024))
    (h₄ : (sh 1024 W).ShapeCasts (sh 1024 W)) (hi₁ : (sh 256 W).Iotas .tc 32 [1]) (hi₀ : (sh 256 W).Iotas .tc 32 [0])
    (m : Vec Ideal (sh 256 1024) .f32) (wt : Vec Ideal (sh 1024 1024) .f32) (b : Vec Ideal (sh 1 1024) .f32)
    (mt : Vec Ideal (sh 1024 W) .f32) (r : Fin 256) (i : Fin W) :
    scores W base (DotDims.plain 256 1024 1024) (DotDims.plain 256 1024 W) h₁ h₂ h₃ h₄ hi₁ hi₀ m wt b mt (ix2 r i)
      = if i.val < 256 * B + r.val then
          form (fun j => m (ix2 r j)) (fun j k => wt (ix2 j k)) (fun k => b (ix2 0 k)) (fun k => mt (ix2 k i))
        else maskv i := by
  subst hbase
  have hw : addi (broadcast (sh 256 W) (Scalar.muli (BitVec.ofNat 32 B) 256#32)) (iota .tc (sh 256 W) 32 [0] hi₀) (ix2 r i) = BitVec.ofNat 32 (256 * B + r.val) := by
    show BitVec.ofNat 32 B * 256#32 + BitVec.ofNat 32 (0 * 256 + r.val) = _
    rw [Nat.zero_mul, Nat.zero_add, BitVec.ofNat_add, BitVec.ofNat_mul, BitVec.mul_comm]
  have hc : colI W hi₁ (ix2 r i) = BitVec.ofNat 32 i.val := by
    show BitVec.ofNat 32 (0 * W + i.val) = _
    rw [Nat.zero_mul, Nat.zero_add]
  unfold scores
  show Scalar.select (IntOp.cmpi .slt (colI W hi₁ (ix2 r i)) (addi (broadcast (sh 256 W) (Scalar.muli (BitVec.ofNat 32 B) 256#32)) (iota .tc (sh 256 W) 32 [0] hi₀) (ix2 r i)))
    (matmul (DotDims.plain 256 1024 W) none
      (addf (matmul (DotDims.plain 256 1024 1024) none m (shapeCast (sh 1024 1024) wt h₁) (constant (sh 256 1024) .f32 0x00000000#32))
        (broadcastTo (sh 256 1024) (shapeCast (sh 1 1024) b h₂) h₃))
      (shapeCast (sh 1024 W) mt h₄) (constant (sh 256 W) .f32 0x00000000#32) (ix2 r i))
    (FloatOps.subf (Scalar.ofBits .f32 0xF149F2CA#32 : Ideal .f32)
      (FloatOps.mulf (FloatOps.sitofp .f32 (colI W hi₁ (ix2 r i))) (Scalar.ofBits .f32 0x6753C21C#32 : Ideal .f32))) = _
  rw [hw, hc, slt_nat (by omega) (by omega), mask_word _ (by omega)]
  refine if_congr Iff.rfl ?_ rfl
  refine (Ideal.matmul_plain_apply none _ _ _ r i).trans ?_
  simp only [shapeCast_self]
  show Ideal.ofBits .f32 0x00000000#32 + _ = _
  rw [Ideal.ofBits_zero_f32, zero_add]
  refine Finset.sum_congr rfl fun k _ => ?_
  refine congrArg₂ (· * ·) ?_ rfl
  show (_ : EReal) + (_ : EReal) = _
  refine congrArg₂ (· + ·) ?_ ?_
  · refine (Ideal.matmul_plain_apply none _ _ _ r k).trans ?_
    show Ideal.ofBits .f32 0x00000000#32 + _ = _
    rw [Ideal.ofBits_zero_f32, zero_add]
  · refine Eq.trans ?_ (bias_apply b h₂ h₃ r k)
    rw [shapeCast_self]

end Cert.Span

end
-- ==== Proof.Block.lean ====
/- One block of rows, whatever the width: what is put out for a row is the first fifty entries of the reference's row. -/
module

public import proofs.«01_k».proof.Proof.Score

@[expose] public section

noncomputable section

namespace Cert.Span

open Idealize.ShloMosaic Idealize.ShloMosaic.ValueIdx Cert.Pick

/-- `v` and `n` are the first fifty entries of the row `x` and their positions. -/
def Answers (x : Fin 4096 → EReal) (v : Fin 50 → EReal) (n : Fin 50 → BitVec 32) : Prop :=
  ∃ f : ℕ → Fin 4096, Firsts x Fin.val 50 f ∧ ∀ j : Fin 50, v j = x (f j) ∧ n j = BitVec.ofNat 32 (f j).val

theorem block_answers {W vc : ℕ} (S : Shapes) (H : Wide W vc) (Z : Sizes) (hv : W = 128 * vc) (h4 : 4 ≤ vc) (hc : vc ≤ 32) (hW : W ≤ 4096)
    (base : BitVec 32) (B : ℕ) (hB : B < 16) (hbase : base = BitVec.ofNat 32 B)
    (m : Vec Ideal (sh 256 1024) .f32) (wt : Vec Ideal (sh 1024 1024) .f32) (b : Vec Ideal (sh 1 1024) .f32)
    (mt : Vec Ideal (sh 1024 W) .f32) (r : Fin 256) (hR : 256 * B + r.val < W) (sc : Fin 4096 → EReal)
    (hsc : ∀ i : Fin W, form (fun j => m (ix2 r j)) (fun j k => wt (ix2 j k)) (fun k => b (ix2 0 k)) (fun k => mt (ix2 k i)) = sc (i.castLE hW))
    (hs : ∀ i : Fin 4096, i.val < 256 * B + r.val → (Scalar.ofBits .f32 0xEFA18F08#32 : Ideal .f32) ≤ sc i)
    (s : FVec Ideal (sh 256 W) .f32)
    (e : s = scores W base (DotDims.plain 256 1024 1024) (DotDims.plain 256 1024 W) H.cast₁ H.cast₂ H.bc₃ H.cast₄ H.io₁ H.io₀ m wt b mt) :
    Answers (rowR (256 * B + r.val) sc) (fun j => resS S H Z s (ix2 r j)) (fun j => resI S H Z s (ix2 r j)) := by
  have hrow : ∀ i : Fin W, s (ix2 r i) = rowK hW (256 * B + r.val) sc i := by
    intro i
    rw [e]
    refine (scores_apply hW base B hB hbase _ _ _ _ _ _ m wt b mt r i).trans ?_
    rw [hsc i]
    rfl
  obtain ⟨f, hf, ho⟩ := row_spec S H Z s r hv h4 hc fun i => by rw [hrow i]; exact rowK_above hW _ sc hs i
  have hf' : Firsts (rowK hW (256 * B + r.val) sc) Fin.val 50 f := by
    rw [show (rowK hW (256 * B + r.val) sc) = fun i => (s (ix2 r i) : EReal) from funext fun i => (hrow i).symm]
    exact hf
  refine ⟨fun n => (f n).castLE hW, firsts_row hW _ hR sc hs hf', fun j => ⟨?_, (ho j).2⟩⟩
  refine (ho j).1.trans ?_
  rw [hrow]
  exact shown_rowK hW _ sc hs _

/-- The score of row `R` against row `i`: the bilinear form, read from the arguments. -/
def score (M : Vec Ideal (sh 4096 1024) .f32) (A : Vec Ideal (sh 1024 1024) .f32) (b : Vec Ideal ⟨1, ![1024]⟩ .f32) (R : ℕ) (hR : R < 4096) (i : Fin 4096) : EReal :=
  form (fun j => M (ix2 ⟨R, hR⟩ j)) (fun j k => A (ix2 k j)) (fun k => b (ix1 k)) (fun k => M (ix2 i k))

/-- A region of four blocks: `W` columns, rows from `1024 K` on. Every row put out holds the first fifty entries of the reference's row. -/
theorem region_answers {W vc N : ℕ} (S : Shapes) (H : Wide W vc) (Z : Sizes) (hv : W = 128 * vc) (K : ℕ) (hK : K < 4) (hW : W = 1024 * (K + 1)) (hN : N = 4)
    (M : Vec Ideal (sh 4096 1024) .f32) (A : Vec Ideal (sh 1024 1024) .f32) (b : Vec Ideal ⟨1, ![1024]⟩ .f32)
    (x : Fin N → Vec Ideal (sh 256 1024) .f32) (wt : Fin N → Vec Ideal (sh 1024 1024) .f32) (bt : Fin N → Vec Ideal (sh 1 1024) .f32)
    (mt : Fin N → Vec Ideal (sh 1024 W) .f32) (base : Fin N → BitVec 32) (s : Fin N → FVec Ideal (sh 256 W) .f32)
    (hx : ∀ t r k (h : 256 * (4 * K + t.val) + r.val < 4096), x t (ix2 r k) = M (ix2 ⟨256 * (4 * K + t.val) + r.val, h⟩ k))
    (hw : ∀ t j k, wt t (ix2 j k) = A (ix2 k j)) (hb : ∀ t k, bt t (ix2 0 k) = b (ix1 k))
    (hm : ∀ t k i (h : i.val < 4096), mt t (ix2 k i) = M (ix2 ⟨i.val, h⟩ k)) (hbase : ∀ t, base t = BitVec.ofNat 32 (4 * K + t.val))
    (hs : ∀ t, s t = scores W (base t) (DotDims.plain 256 1024 1024) (DotDims.plain 256 1024 W) H.cast₁ H.cast₂ H.bc₃ H.cast₄ H.io₁ H.io₀ (x t) (wt t) (bt t) (mt t))
    (o : Vec Ideal (sh 1024 50) .f32) (n : IVec (sh 1024 50) 32)
    (ho : ∀ t r j (h : 256 * t.val + r.val < 1024), o (ix2 ⟨256 * t.val + r.val, h⟩ j) = resS S H Z (s t) (ix2 r j))
    (hn : ∀ t r j (h : 256 * t.val + r.val < 1024), n (ix2 ⟨256 * t.val + r.val, h⟩ j) = resI S H Z (s t) (ix2 r j))
    (g : Fin 1024) (R : ℕ) (hR : R = 1024 * K + g.val) (hR' : R < 4096)
    (above : ∀ i : Fin 4096, i.val < R → (Scalar.ofBits .f32 0xEFA18F08#32 : Ideal .f32) ≤ score M A b R hR' i) :
    Answers (rowR R (score M A b R hR')) (fun j => o (ix2 g j)) (fun j => n (ix2 g j)) := by
  have hg := g.isLt
  obtain ⟨t, r, e⟩ : ∃ (t : Fin N) (r : Fin 256), g.val = 256 * t.val + r.val :=
    ⟨⟨g.val / 256, by omega⟩, ⟨g.val % 256, by omega⟩, by show g.val = 256 * (g.val / 256) + g.val % 256; omega⟩
  have eR : R = 256 * (4 * K + t.val) + r.val := by omega
  have eg : g = ⟨256 * t.val + r.val, by omega⟩ := Fin.ext e
  subst eR
  have h := block_answers S H Z hv (by omega) (by omega) (by omega) (base t) (4 * K + t.val) (by omega) (hbase t) (x t) (wt t) (bt t) (mt t) r (by omega)
    (score M A b _ hR') (fun i => by
      unfold score
      refine congr (congr (congr (congrArg form ?_) ?_) ?_) ?_
      · funext j; exact hx t r j hR'
      · funext j k; exact hw t j k
      · funext k; exact hb t k
      · funext k; exact hm t k i (by omega)) above (s t) (hs t)
  rw [eg]
  simp only [ho, hn]
  exact h

end Cert.Span

end
-- ==== Proof.Fetch.lean ====
/- What the four regions fetch and leave, at coordinates: every row they put out holds the first fifty entries of the reference's row. -/
module

public import proofs.«01_k».proof.Proof.Block
public import proofs.«01_k».proof.Proof.Whole
public import Idealize.ShloMosaic.Lib.Pipeline.ValueKit.Geometry

@[expose] public section

noncomputable section

namespace Cert.KernelIdeal.Run

open Cert.KernelIdeal Cert.KernelIdeal.Gen Cert.Span
open Idealize.ShloMosaic Idealize.ShloMosaic.TcCoe Idealize.ShloMosaic.Tactic Idealize.ShloMosaic.ValueIdx
open Idealize.ShloMosaic.Pipeline (Dat Cfg Window)

/-- A sum of two small words. -/
theorem add_nat (a b : ℕ) : Scalar.addi (BitVec.ofNat 32 a) (BitVec.ofNat 32 b) = BitVec.ofNat 32 (a + b) := (BitVec.ofNat_add a b).symm

variable (V : Dev nD → Valuation τ sig (Elt Ideal)) (c : Dev nD)
variable (M : Vec Ideal (sh 4096 1024) .f32) (A : Vec Ideal (sh 1024 1024) .f32) (b : Vec Ideal ⟨1, ![1024]⟩ .f32)
variable (hM : V c main_arg0 = M) (hw : ∀ j k, V c main_v0 (ix2 j k) = A (ix2 k j)) (hb : ∀ k, V c main_v2 (ix2 0 k) = b (ix1 k))

/-! ## Region 0 -/

theorem coord0 : ∀ t : Fin cfg0.N, ((grid0.coords t) 0).val = t.val := (by decide +kernel : ∀ t : Fin grid0.N, _)
theorem at0_0 : ∀ t : Fin cfg0.N, win0_0.index t = ![0 + t.val, 0] := (by decide +kernel : ∀ t : Fin grid0.N, _)
theorem at0_1 : ∀ t : Fin cfg0.N, win0_1.index t = ![0, 0] := (by decide +kernel : ∀ t : Fin grid0.N, _)
theorem at0_2 : ∀ t : Fin cfg0.N, win0_2.index t = ![0, 0] := (by decide +kernel : ∀ t : Fin grid0.N, _)
theorem at0_3 : ∀ t : Fin cfg0.N, win0_3.index t = ![0, 0] := (by decide +kernel : ∀ t : Fin grid0.N, _)
theorem at0_4 : ∀ t : Fin cfg0.N, win0_4.index t = ![t.val, 0] := (by decide +kernel : ∀ t : Fin grid0.N, _)
theorem at0_5 : ∀ t : Fin cfg0.N, win0_5.index t = ![t.val, 0] := (by decide +kernel : ∀ t : Fin grid0.N, _)

theorem emb0_0 (t : Fin cfg0.N) (r : Fin 256) (k : Fin 1024) (h : 256 * (4 * 0 + t.val) + r.val < 4096) :
    ((cfg0.win 0).blk t).view.emb (ix2 r k) = ix2 ⟨256 * (4 * 0 + t.val) + r.val, h⟩ k := by
  blk_ext [at0_0]
  show t.val * 256 + r.val = _
  omega
theorem emb0_1 (t : Fin cfg0.N) (j k : Fin 1024) : ((cfg0.win 1).blk t).view.emb (ix2 j k) = ix2 j k := by blk_ext [at0_1]
theorem emb0_2 (t : Fin cfg0.N) (k : Fin 1024) : ((cfg0.win 2).blk t).view.emb (ix2 0 k) = ix2 0 k := by blk_ext [at0_2]
theorem emb0_3 (t : Fin cfg0.N) (k : Fin 1024) (i : Fin 1024) : ((cfg0.win 3).blk t).view.emb (ix2 k i) = ix2 k i := by blk_ext [at0_3]
theorem emb0_4 (t : Fin cfg0.N) (r : Fin 256) (j : Fin 50) (h : 256 * t.val + r.val < 1024) :
    ((cfg0.win 4).blk t).view.emb (ix2 r j) = ix2 ⟨256 * t.val + r.val, h⟩ j := by
  blk_ext [at0_4]
  show t.val * 256 + r.val = _
  omega
theorem emb0_5 (t : Fin cfg0.N) (r : Fin 256) (j : Fin 50) (h : 256 * t.val + r.val < 1024) :
    ((cfg0.win 5).blk t).view.emb (ix2 r j) = ix2 ⟨256 * t.val + r.val, h⟩ j := by
  blk_ext [at0_5]
  show t.val * 256 + r.val = _
  omega

include hM hw hb in
theorem answers0 (hm : ∀ k (i : Fin 1024) (h : i.val < 4096), V c main_v3 (ix2 k i) = M (ix2 ⟨i.val, h⟩ k))
    (g : Fin 1024) (R : ℕ) (hR : R = 1024 * 0 + g.val) (hR' : R < 4096)
    (above : ∀ i : Fin 4096, i.val < R → (Scalar.ofBits .f32 0xEFA18F08#32 : Ideal .f32) ≤ score M A b R hR' i) :
    Answers (rowR R (score M A b R hR')) (fun j => (dat0 V c).arrAt 4 cfg0.N (ix2 g j)) (fun j => (dat0 V c).arrAt 5 cfg0.N (ix2 g j)) := by
  subst hM
  exact region_answers shapes wide0 sizes rfl 0 (by decide) rfl N_0 (V c main_arg0) A b
    (fun t => ((cfg0.win 0).blk t).view.read (Elt Ideal) (V c main_arg0)) (fun t => ((cfg0.win 1).blk t).view.read (Elt Ideal) (V c main_v0))
    (fun t => ((cfg0.win 2).blk t).view.read (Elt Ideal) (V c main_v2)) (fun t => ((cfg0.win 3).blk t).view.read (Elt Ideal) (V c main_v3))
    (fun t => Scalar.addi 0#32 (BitVec.ofNat 32 ((grid0.coords t) 0).val)) (score0 V c)
    (fun t r k h => congrArg (V c main_arg0) (emb0_0 t r k h))
    (fun t j k => (congrArg (V c main_v0) (emb0_1 t j k)).trans (hw j k)) (fun t k => (congrArg (V c main_v2) (emb0_2 t k)).trans (hb k))
    (fun t k i h => (congrArg (V c main_v3) (emb0_3 t k i)).trans (hm k i h)) (fun t => by rw [coord0 t]; exact add_nat _ _) (fun t => rfl)
    ((dat0 V c).arrAt 4 cfg0.N) ((dat0 V c).arrAt 5 cfg0.N)
    (fun t r j h => (congrArg ((dat0 V c).arrAt 4 cfg0.N) (emb0_4 t r j h)).symm.trans
      ((dat0 V c).arrAt_emb_eq_flushed 4 (Window.hdisj_of_index_inj win0_4 (by decide +kernel)) t (flush0_4 t) (ix2 r j)))
    (fun t r j h => (congrArg ((dat0 V c).arrAt 5 cfg0.N) (emb0_5 t r j h)).symm.trans
      ((dat0 V c).arrAt_emb_eq_flushed 5 (Window.hdisj_of_index_inj win0_5 (by decide +kernel)) t (flush0_5 t) (ix2 r j)))
    g R hR hR' above

/-! ## Region 1 -/

theorem coord1 : ∀ t : Fin cfg1.N, ((grid1.coords t) 0).val = t.val := (by decide +kernel : ∀ t : Fin grid1.N, _)
theorem at1_0 : ∀ t : Fin cfg1.N, win1_0.index t = ![4 + t.val, 0] := (by decide +kernel : ∀ t : Fin grid1.N, _)
theorem at1_1 : ∀ t : Fin cfg1.N, win1_1.index t = ![0, 0] := (by decide +kernel : ∀ t : Fin grid1.N, _)
theorem at1_2 : ∀ t : Fin cfg1.N, win1_2.index t = ![0, 0] := (by decide +kernel : ∀ t : Fin grid1.N, _)
theorem at1_3 : ∀ t : Fin cfg1.N, win1_3.index t = ![0, 0] := (by decide +kernel : ∀ t : Fin grid1.N, _)
theorem at1_4 : ∀ t : Fin cfg1.N, win1_4.index t = ![t.val, 0] := (by decide +kernel : ∀ t : Fin grid1.N, _)
theorem at1_5 : ∀ t : Fin cfg1.N, win1_5.index t = ![t.val, 0] := (by decide +kernel : ∀ t : Fin grid1.N, _)

theorem emb1_0 (t : Fin cfg1.N) (r : Fin 256) (k : Fin 1024) (h : 256 * (4 * 1 + t.val) + r.val < 4096) :
    ((cfg1.win 0).blk t).view.emb (ix2 r k) = ix2 ⟨256 * (4 * 1 + t.val) + r.val, h⟩ k := by
  blk_ext [at1_0]
  show (4 + t.val) * 256 + r.val = _
  omega
theorem emb1_1 (t : Fin cfg1.N) (j k : Fin 1024) : ((cfg1.win 1).blk t).view.emb (ix2 j k) = ix2 j k := by blk_ext [at1_1]
theorem emb1_2 (t : Fin cfg1.N) (k : Fin 1024) : ((cfg1.win 2).blk t).view.emb (ix2 0 k) = ix2 0 k := by blk_ext [at1_2]
theorem emb1_3 (t : Fin cfg1.N) (k : Fin 1024) (i : Fin 2048) : ((cfg1.win 3).blk t).view.emb (ix2 k i) = ix2 k i := by blk_ext [at1_3]
theorem emb1_4 (t : Fin cfg1.N) (r : Fin 256) (j : Fin 50) (h : 256 * t.val + r.val < 1024) :
    ((cfg1.win 4).blk t).view.emb (ix2 r j) = ix2 ⟨256 * t.val + r.val, h⟩ j := by
  blk_ext [at1_4]
  show t.val * 256 + r.val = _
  omega
theorem emb1_5 (t : Fin cfg1.N) (r : Fin 256) (j : Fin 50) (h : 256 * t.val + r.val < 1024) :
    ((cfg1.win 5).blk t).view.emb (ix2 r j) = ix2 ⟨256 * t.val + r.val, h⟩ j := by
  blk_ext [at1_5]
  show t.val * 256 + r.val = _
  omega

include hM hw hb in
theorem answers1 (hm : ∀ k (i : Fin 2048) (h : i.val < 4096), V c main_v5 (ix2 k i) = M (ix2 ⟨i.val, h⟩ k))
    (g : Fin 1024) (R : ℕ) (hR : R = 1024 * 1 + g.val) (hR' : R < 4096)
    (above : ∀ i : Fin 4096, i.val < R → (Scalar.ofBits .f32 0xEFA18F08#32 : Ideal .f32) ≤ score M A b R hR' i) :
    Answers (rowR R (score M A b R hR')) (fun j => (dat1 V c).arrAt 4 cfg1.N (ix2 g j)) (fun j => (dat1 V c).arrAt 5 cfg1.N (ix2 g j)) := by
  subst hM
  exact region_answers shapes wide1 sizes rfl 1 (by decide) rfl N_1 (V c main_arg0) A b
    (fun t => ((cfg1.win 0).blk t).view.read (Elt Ideal) (V c main_arg0)) (fun t => ((cfg1.win 1).blk t).view.read (Elt Ideal) (V c main_v0))
    (fun t => ((cfg1.win 2).blk t).view.read (Elt Ideal) (V c main_v2)) (fun t => ((cfg1.win 3).blk t).view.read (Elt Ideal) (V c main_v5))
    (fun t => Scalar.addi 4#32 (BitVec.ofNat 32 ((grid1.coords t) 0).val)) (score1 V c)
    (fun t r k h => congrArg (V c main_arg0) (emb1_0 t r k h))
    (fun t j k => (congrArg (V c main_v0) (emb1_1 t j k)).trans (hw j k)) (fun t k => (congrArg (V c main_v2) (emb1_2 t k)).trans (hb k))
    (fun t k i h => (congrArg (V c main_v5) (emb1_3 t k i)).trans (hm k i h)) (fun t => by rw [coord1 t]; exact add_nat _ _) (fun t => rfl)
    ((dat1 V c).arrAt 4 cfg1.N) ((dat1 V c).arrAt 5 cfg1.N)
    (fun t r j h => (congrArg ((dat1 V c).arrAt 4 cfg1.N) (emb1_4 t r j h)).symm.trans
      ((dat1 V c).arrAt_emb_eq_flushed 4 (Window.hdisj_of_index_inj win1_4 (by decide +kernel)) t (flush1_4 t) (ix2 r j)))
    (fun t r j h => (congrArg ((dat1 V c).arrAt 5 cfg1.N) (emb1_5 t r j h)).symm.trans
      ((dat1 V c).arrAt_emb_eq_flushed 5 (Window.hdisj_of_index_inj win1_5 (by decide +kernel)) t (flush1_5 t) (ix2 r j)))
    g R hR hR' above

/-! ## Region 2 -/

theorem coord2 : ∀ t : Fin cfg2.N, ((grid2.coords t) 0).val = t.val := (by decide +kernel : ∀ t : Fin grid2.N, _)
theorem at2_0 : ∀ t : Fin cfg2.N, win2_0.index t = ![8 + t.val, 0] := (by decide +kernel : ∀ t : Fin grid2.N, _)
theorem at2_1 : ∀ t : Fin cfg2.N, win2_1.index t = ![0, 0] := (by decide +kernel : ∀ t : Fin grid2.N, _)
theorem at2_2 : ∀ t : Fin cfg2.N, win2_2.index t = ![0, 0] := (by decide +kernel : ∀ t : Fin grid2.N, _)
theorem at2_3 : ∀ t : Fin cfg2.N, win2_3.index t = ![0, 0] := (by decide +kernel : ∀ t : Fin grid2.N, _)
theorem at2_4 : ∀ t : Fin cfg2.N, win2_4.index t = ![t.val, 0] := (by decide +kernel : ∀ t : Fin grid2.N, _)
theorem at2_5 : ∀ t : Fin cfg2.N, win2_5.index t = ![t.val, 0] := (by decide +kernel : ∀ t : Fin grid2.N, _)

theorem emb2_0 (t : Fin cfg2.N) (r : Fin 256) (k : Fin 1024) (h : 256 * (4 * 2 + t.val) + r.val < 4096) :
    ((cfg2.win 0).blk t).view.emb (ix2 r k) = ix2 ⟨256 * (4 * 2 + t.val) + r.val, h⟩ k := by
  blk_ext [at2_0]
  show (8 + t.val) * 256 + r.val = _
  omega
theorem emb2_1 (t : Fin cfg2.N) (j k : Fin 1024) : ((cfg2.win 1).blk t).view.emb (ix2 j k) = ix2 j k := by blk_ext [at2_1]
theorem emb2_2 (t : Fin cfg2.N) (k : Fin 1024) : ((cfg2.win 2).blk t).view.emb (ix2 0 k) = ix2 0 k := by blk_ext [at2_2]
theorem emb2_3 (t : Fin cfg2.N) (k : Fin 1024) (i : Fin 3072) : ((cfg2.win 3).blk t).view.emb (ix2 k i) = ix2 k i := by blk_ext [at2_3]
theorem emb2_4 (t : Fin cfg2.N) (r : Fin 256) (j : Fin 50) (h : 256 * t.val + r.val < 1024) :
    ((cfg2.win 4).blk t).view.emb (ix2 r j) = ix2 ⟨256 * t.val + r.val, h⟩ j := by
  blk_ext [at2_4]
  show t.val * 256 + r.val = _
  omega
theorem emb2_5 (t : Fin cfg2.N) (r : Fin 256) (j : Fin 50) (h : 256 * t.val + r.val < 1024) :
    ((cfg2.win 5).blk t).view.emb (ix2 r j) = ix2 ⟨256 * t.val + r.val, h⟩ j := by
  blk_ext [at2_5]
  show t.val * 256 + r.val = _
  omega

include hM hw hb in
theorem answers2 (hm : ∀ k (i : Fin 3072) (h : i.val < 4096), V c main_v7 (ix2 k i) = M (ix2 ⟨i.val, h⟩ k))
    (g : Fin 1024) (R : ℕ) (hR : R = 1024 * 2 + g.val) (hR' : R < 4096)
    (above : ∀ i : Fin 4096, i.val < R → (Scalar.ofBits .f32 0xEFA18F08#32 : Ideal .f32) ≤ score M A b R hR' i) :
    Answers (rowR R (score M A b R hR')) (fun j => (dat2 V c).arrAt 4 cfg2.N (ix2 g j)) (fun j => (dat2 V c).arrAt 5 cfg2.N (ix2 g j)) := by
  subst hM
  exact region_answers shapes wide2 sizes rfl 2 (by decide) rfl N_2 (V c main_arg0) A b
    (fun t => ((cfg2.win 0).blk t).view.read (Elt Ideal) (V c main_arg0)) (fun t => ((cfg2.win 1).blk t).view.read (Elt Ideal) (V c main_v0))
    (fun t => ((cfg2.win 2).blk t).view.read (Elt Ideal) (V c main_v2)) (fun t => ((cfg2.win 3).blk t).view.read (Elt Ideal) (V c main_v7))
    (fun t => Scalar.addi 8#32 (BitVec.ofNat 32 ((grid2.coords t) 0).val)) (score2 V c)
    (fun t r k h => congrArg (V c main_arg0) (emb2_0 t r k h))
    (fun t j k => (congrArg (V c main_v0) (emb2_1 t j k)).trans (hw j k)) (fun t k => (congrArg (V c main_v2) (emb2_2 t k)).trans (hb k))
    (fun t k i h => (congrArg (V c main_v7) (emb2_3 t k i)).trans (hm k i h)) (fun t => by rw [coord2 t]; exact add_nat _ _) (fun t => rfl)
    ((dat2 V c).arrAt 4 cfg2.N) ((dat2 V c).arrAt 5 cfg2.N)
    (fun t r j h => (congrArg ((dat2 V c).arrAt 4 cfg2.N) (emb2_4 t r j h)).symm.trans
      ((dat2 V c).arrAt_emb_eq_flushed 4 (Window.hdisj_of_index_inj win2_4 (by decide +kernel)) t (flush2_4 t) (ix2 r j)))
    (fun t r j h => (congrArg ((dat2 V c).arrAt 5 cfg2.N) (emb2_5 t r j h)).symm.trans
      ((dat2 V c).arrAt_emb_eq_flushed 5 (Window.hdisj_of_index_inj win2_5 (by decide +kernel)) t (flush2_5 t) (ix2 r j)))
    g R hR hR' above

/-! ## Region 3 -/

theorem coord3 : ∀ t : Fin cfg3.N, ((grid3.coords t) 0).val = t.val := (by decide +kernel : ∀ t : Fin grid3.N, _)
theorem at3_0 : ∀ t : Fin cfg3.N, win3_0.index t = ![12 + t.val, 0] := (by decide +kernel : ∀ t : Fin grid3.N, _)
theorem at3_1 : ∀ t : Fin cfg3.N, win3_1.index t = ![0, 0] := (by decide +kernel : ∀ t : Fin grid3.N, _)
theorem at3_2 : ∀ t : Fin cfg3.N, win3_2.index t = ![0, 0] := (by decide +kernel : ∀ t : Fin grid3.N, _)
theorem at3_3 : ∀ t : Fin cfg3.N, win3_3.index t = ![0, 0] := (by decide +kernel : ∀ t : Fin grid3.N, _)
theorem at3_4 : ∀ t : Fin cfg3.N, win3_4.index t = ![t.val, 0] := (by decide +kernel : ∀ t : Fin grid3.N, _)
theorem at3_5 : ∀ t : Fin cfg3.N, win3_5.index t = ![t.val, 0] := (by decide +kernel : ∀ t : Fin grid3.N, _)

theorem emb3_0 (t : Fin cfg3.N) (r : Fin 256) (k : Fin 1024) (h : 256 * (4 * 3 + t.val) + r.val < 4096) :
    ((cfg3.win 0).blk t).view.emb (ix2 r k) = ix2 ⟨256 * (4 * 3 + t.val) + r.val, h⟩ k := by
  blk_ext [at3_0]
  show (12 + t.val) * 256 + r.val = _
  omega
theorem emb3_1 (t : Fin cfg3.N) (j k : Fin 1024) : ((cfg3.win 1).blk t).view.emb (ix2 j k) = ix2 j k := by blk_ext [at3_1]
theorem emb3_2 (t : Fin cfg3.N) (k : Fin 1024) : ((cfg3.win 2).blk t).view.emb (ix2 0 k) = ix2 0 k := by blk_ext [at3_2]
theorem emb3_3 (t : Fin cfg3.N) (k : Fin 1024) (i : Fin 4096) : ((cfg3.win 3).blk t).view.emb (ix2 k i) = ix2 k i := by blk_ext [at3_3]
theorem emb3_4 (t : Fin cfg3.N) (r : Fin 256) (j : Fin 50) (h : 256 * t.val + r.val < 1024) :
    ((cfg3.win 4).blk t).view.emb (ix2 r j) = ix2 ⟨256 * t.val + r.val, h⟩ j := by
  blk_ext [at3_4]
  show t.val * 256 + r.val = _
  omega
theorem emb3_5 (t : Fin cfg3.N) (r : Fin 256) (j : Fin 50) (h : 256 * t.val + r.val < 1024) :
    ((cfg3.win 5).blk t).view.emb (ix2 r j) = ix2 ⟨256 * t.val + r.val, h⟩ j := by
  blk_ext [at3_5]
  show t.val * 256 + r.val = _
  omega

include hM hw hb in
theorem answers3 (hm : ∀ k (i : Fin 4096) (h : i.val < 4096), V c main_v1 (ix2 k i) = M (ix2 ⟨i.val, h⟩ k))
    (g : Fin 1024) (R : ℕ) (hR : R = 1024 * 3 + g.val) (hR' : R < 4096)
    (above : ∀ i : Fin 4096, i.val < R → (Scalar.ofBits .f32 0xEFA18F08#32 : Ideal .f32) ≤ score M A b R hR' i) :
    Answers (rowR R (score M A b R hR')) (fun j => (dat3 V c).arrAt 4 cfg3.N (ix2 g j)) (fun j => (dat3 V c).arrAt 5 cfg3.N (ix2 g j)) := by
  subst hM
  exact region_answers shapes wide3 sizes rfl 3 (by decide) rfl N_3 (V c main_arg0) A b
    (fun t => ((cfg3.win 0).blk t).view.read (Elt Ideal) (V c main_arg0)) (fun t => ((cfg3.win 1).blk t).view.read (Elt Ideal) (V c main_v0))
    (fun t => ((cfg3.win 2).blk t).view.read (Elt Ideal) (V c main_v2)) (fun t => ((cfg3.win 3).blk t).view.read (Elt Ideal) (V c main_v1))
    (fun t => Scalar.addi 12#32 (BitVec.ofNat 32 ((grid3.coords t) 0).val)) (score3 V c)
    (fun t r k h => congrArg (V c main_arg0) (emb3_0 t r k h))
    (fun t j k => (congrArg (V c main_v0) (emb3_1 t j k)).trans (hw j k)) (fun t k => (congrArg (V c main_v2) (emb3_2 t k)).trans (hb k))
    (fun t k i h => (congrArg (V c main_v1) (emb3_3 t k i)).trans (hm k i h)) (fun t => by rw [coord3 t]; exact add_nat _ _) (fun t => rfl)
    ((dat3 V c).arrAt 4 cfg3.N) ((dat3 V c).arrAt 5 cfg3.N)
    (fun t r j h => (congrArg ((dat3 V c).arrAt 4 cfg3.N) (emb3_4 t r j h)).symm.trans
      ((dat3 V c).arrAt_emb_eq_flushed 4 (Window.hdisj_of_index_inj win3_4 (by decide +kernel)) t (flush3_4 t) (ix2 r j)))
    (fun t r j h => (congrArg ((dat3 V c).arrAt 5 cfg3.N) (emb3_5 t r j h)).symm.trans
      ((dat3 V c).arrAt_emb_eq_flushed 5 (Window.hdisj_of_index_inj win3_5 (by decide +kernel)) t (flush3_5 t) (ix2 r j)))
    g R hR hR' above

end Cert.KernelIdeal.Run

end
-- ==== Proof.Values.lean ====
/- The buffers the regions read, and the two results, at coordinates. -/
module

public import proofs.«01_k».proof.Proof.Fetch
public import Idealize.ShloMosaic.Lib.Pipeline.Value

@[expose] public section

noncomputable section

namespace Cert.KernelIdeal.Run

open Cert.KernelIdeal Cert.KernelIdeal.Gen Cert.Span
open Idealize.ShloMosaic Idealize.ShloMosaic.TcCoe Idealize.ShloMosaic.Tactic Idealize.ShloMosaic.ValueIdx

/-- Four arrays one above the other, at a row of the `K`-th. -/
theorem concat_rows {α : Type} (x : Fin 4 → ((sh 1024 50).Idx → α))
    (h : Shape.Concatenates ((List.ofFn fun n : Fin 4 => (⟨sh 1024 50, x n⟩ : (s : Shape) × (s.Idx → α))).map (·.1)) (sh 4096 50) 0)
    (K : Fin 4) (g : Fin 1024) (R : Fin 4096) (hR : R.val = 1024 * K.val + g.val) (j : Fin 50) :
    concatenate (sh 4096 50) 0 (List.ofFn fun n : Fin 4 => (⟨sh 1024 50, x n⟩ : (s : Shape) × (s.Idx → α))) h (ix2 R j) = x K (ix2 g j) := by
  refine concatenate_ofFn_apply 0 x h rfl 1024 rfl (ix2 R j) K ?_ (ix2 g j) ?_ ?_
  · show R.val / 1024 = K.val
    omega
  · show g.val = R.val % 1024
    omega
  · intro b hb
    match b with
    | ⟨0, _⟩ => exact absurd rfl hb
    | ⟨1, _⟩ => rfl

theorem slice_cols {α : Type} {W : ℕ} (x : (sh 1024 4096).Idx → α) (h : (sh 1024 4096).Slices ![0, 0] (sh 1024 W)) (k : Fin 1024) (i : Fin W)
    (hi : i.val < 4096) : extractStridedSlice (sh 1024 W) ![0, 0] x h (ix2 k i) = x (ix2 k ⟨i.val, hi⟩) := by
  refine extractStridedSlice_apply ![0, 0] x h (ix2 k i) (ix2 k ⟨i.val, hi⟩) ?_
  intro a
  match a with
  | ⟨0, _⟩ => exact (Nat.zero_add _).symm
  | ⟨1, _⟩ => exact (Nat.zero_add _).symm

section Entry

variable {F : FTy → Type} [FloatOps F] (V : Valuation τ sig (Elt F))

theorem host0_v0 : StableHlo.after hostOps0 V main_v0 = transpose S1024x1024 [1, 0] (V main_arg1) transposes_S1024x1024_S1024x1024_1_0 := by
  unfold hostOps0; after_results
theorem host0_v1 : StableHlo.after hostOps0 V main_v1 = transpose S1024x4096 [1, 0] (V main_arg0) transposes_S4096x1024_S1024x4096_1_0 := by
  unfold hostOps0; after_results
theorem host0_v2 : StableHlo.after hostOps0 V main_v2 = shapeCast S1x1024 (V main_arg2) shapeCasts_S1024_S1x1024 := by
  unfold hostOps0; after_results; rfl
theorem host0_v3 : StableHlo.after hostOps0 V main_v3
    = extractStridedSlice S1024x1024 ![0, 0] (transpose S1024x4096 [1, 0] (V main_arg0) transposes_S4096x1024_S1024x4096_1_0) slices_S1024x4096_S1024x1024_0_0 := by
  unfold hostOps0; after_results
theorem host1_v5 : StableHlo.after hostOps1 V main_v5 = extractStridedSlice S1024x2048 ![0, 0] (V main_v1) slices_S1024x4096_S1024x2048_0_0 := by
  unfold hostOps1; after_results
theorem host2_v7 : StableHlo.after hostOps2 V main_v7 = extractStridedSlice S1024x3072 ![0, 0] (V main_v1) slices_S1024x4096_S1024x3072_0_0 := by
  unfold hostOps2; after_results
theorem host4_v10 : StableHlo.after hostOps4 V main_v10
    = concatenate S4096x50 0 (List.ofFn fun n : Fin 4 => (⟨S1024x50, (![V main_v4_0, V main_v6_0, V main_v8_0, V main_v9_0] : Fin 4 → FVec F S1024x50 .f32) n⟩ : (s : Shape) × (s.Idx → F .f32)))
      concatenates_S1024x50_S1024x50_S1024x50_S1024x50_S4096x50_d0 := by
  unfold hostOps4; after_results; rfl
theorem host4_v11 : StableHlo.after hostOps4 V main_v11
    = concatenate S4096x50 0 (List.ofFn fun n : Fin 4 => (⟨S1024x50, (![V main_v4_1, V main_v6_1, V main_v8_1, V main_v9_1] : Fin 4 → IVec S1024x50 32) n⟩ : (s : Shape) × (s.Idx → BitVec 32)))
      concatenates_S1024x50_S1024x50_S1024x50_S1024x50_S4096x50_d0 := by
  unfold hostOps4; after_results; rfl

end Entry

section Chain

variable {F : FTy → Type} [FloatOps F] (m : (ℓ : Loc nD τ sig) → Buf (Elt F) ℓ) (c : Dev nD) (r : Ref sig .tc)

theorem kept3 (h : r ∉ ([main_v4_0, main_v4_1, main_v5] : List (Ref sig .tc))) : W3 m c r = V1 m c r :=
  (StableHlo.after_of_writes_sub hostOps1 _ hostOps1_writes fun e => h (by simp only [List.mem_cons] at e ⊢; tauto)).trans
    (leave_of (V1 m c) main_v4_0 main_v4_1 _ _ (fun e => h (by simp [e])) (fun e => h (by simp [e])))
theorem kept5 (h : r ∉ ([main_v6_0, main_v6_1, main_v7] : List (Ref sig .tc))) : W5 m c r = W3 m c r :=
  (StableHlo.after_of_writes_sub hostOps2 _ hostOps2_writes fun e => h (by simp only [List.mem_cons] at e ⊢; tauto)).trans
    (leave_of (W3 m c) main_v6_0 main_v6_1 _ _ (fun e => h (by simp [e])) (fun e => h (by simp [e])))
theorem kept6 (h : r ∉ ([main_v8_0, main_v8_1] : List (Ref sig .tc))) : W6 m c r = W5 m c r :=
  leave_of (W5 m c) main_v8_0 main_v8_1 _ _ (fun e => h (by simp [e])) (fun e => h (by simp [e]))
theorem kept7 (h : r ∉ ([main_v9_0, main_v9_1] : List (Ref sig .tc))) : W7 m c r = W6 m c r :=
  leave_of (W6 m c) main_v9_0 main_v9_1 _ _ (fun e => h (by simp [e])) (fun e => h (by simp [e]))

/-- What region 0 leaves reaches the last stretch. -/
theorem left0_S : W7 m c main_v4_0 = (dat0 (V1 m) c).arrAt 4 cfg0.N :=
  (kept7 m c main_v4_0 (by decide)).trans <| (kept6 m c main_v4_0 (by decide)).trans <| (kept5 m c main_v4_0 (by decide)).trans <|
    (StableHlo.after_of_writes_sub hostOps1 _ hostOps1_writes (r := main_v4_0) (by decide)).trans (leave_fst (V1 m c) main_v4_0 main_v4_1 _ _ (by decide))
theorem left0_I : W7 m c main_v4_1 = (dat0 (V1 m) c).arrAt 5 cfg0.N :=
  (kept7 m c main_v4_1 (by decide)).trans <| (kept6 m c main_v4_1 (by decide)).trans <| (kept5 m c main_v4_1 (by decide)).trans <|
    (StableHlo.after_of_writes_sub hostOps1 _ hostOps1_writes (r := main_v4_1) (by decide)).trans (leave_snd (V1 m c) main_v4_0 main_v4_1 _ _)
/-- What region 1 leaves reaches the last stretch. -/
theorem left1_S : W7 m c main_v6_0 = (dat1 (W3 m) c).arrAt 4 cfg1.N :=
  (kept7 m c main_v6_0 (by decide)).trans <| (kept6 m c main_v6_0 (by decide)).trans <|
    (StableHlo.after_of_writes_sub hostOps2 _ hostOps2_writes (r := main_v6_0) (by decide)).trans (leave_fst (W3 m c) main_v6_0 main_v6_1 _ _ (by decide))
theorem left1_I : W7 m c main_v6_1 = (dat1 (W3 m) c).arrAt 5 cfg1.N :=
  (kept7 m c main_v6_1 (by decide)).trans <| (kept6 m c main_v6_1 (by decide)).trans <|
    (StableHlo.after_of_writes_sub hostOps2 _ hostOps2_writes (r := main_v6_1) (by decide)).trans (leave_snd (W3 m c) main_v6_0 main_v6_1 _ _)
/-- What region 2 leaves reaches the last stretch. -/
theorem left2_S : W7 m c main_v8_0 = (dat2 (W5 m) c).arrAt 4 cfg2.N :=
  (kept7 m c main_v8_0 (by decide)).trans (leave_fst (W5 m c) main_v8_0 main_v8_1 _ _ (by decide))
theorem left2_I : W7 m c main_v8_1 = (dat2 (W5 m) c).arrAt 5 cfg2.N :=
  (kept7 m c main_v8_1 (by decide)).trans (leave_snd (W5 m c) main_v8_0 main_v8_1 _ _)
/-- What region 3 leaves reaches the last stretch. -/
theorem left3_S : W7 m c main_v9_0 = (dat3 (W6 m) c).arrAt 4 cfg3.N := leave_fst (W6 m c) main_v9_0 main_v9_1 _ _ (by decide)
theorem left3_I : W7 m c main_v9_1 = (dat3 (W6 m) c).arrAt 5 cfg3.N := leave_snd (W6 m c) main_v9_0 main_v9_1 _ _

end Chain

section Rows

variable (m : (ℓ : Loc nD τ sig) → Buf (Elt Ideal) ℓ) (c : Dev nD)

/-- The arguments. -/
abbrev argM : Vec Ideal (sh 4096 1024) .f32 := m ((c.tc : Thread nD τ).loc main_arg0)
abbrev argW : Vec Ideal (sh 1024 1024) .f32 := m ((c.tc : Thread nD τ).loc main_arg1)
abbrev argB : Vec Ideal ⟨1, ![1024]⟩ .f32 := m ((c.tc : Thread nD τ).loc main_arg2)

theorem V1_arg0 : V1 m c main_arg0 = argM m c := V1_of m c main_arg0 (by decide)

theorem V1_v0 (j k : Fin 1024) : V1 m c main_v0 (ix2 j k) = argW m c (ix2 k j) :=
  (congrFun (host0_v0 (V0 m c)) (ix2 j k)).trans (transpose_ix2_apply _ _ j k)

theorem V1_v2 (k : Fin 1024) : V1 m c main_v2 (ix2 0 k) = argB m c (ix1 k) :=
  (congrFun (host0_v2 (V0 m c)) (ix2 0 k)).trans (shapeCast_apply _ _ (ix2 0 k) (ix1 k) (by
    rw [Shape.rowMajor_val_one, Shape.rowMajor_val_two]
    show k.val = 0 * 1024 + k.val
    omega))

theorem V1_v1 (k : Fin 1024) (i : Fin 4096) : V1 m c main_v1 (ix2 k i) = argM m c (ix2 i k) :=
  (congrFun (host0_v1 (V0 m c)) (ix2 k i)).trans (transpose_ix2_apply _ _ k i)

theorem V1_v3 (k i : Fin 1024) (h : i.val < 4096) : V1 m c main_v3 (ix2 k i) = argM m c (ix2 ⟨i.val, h⟩ k) :=
  (congrFun (host0_v3 (V0 m c)) (ix2 k i)).trans ((slice_cols _ _ k i h).trans (transpose_ix2_apply _ _ k ⟨i.val, h⟩))

theorem W3_v5 (k : Fin 1024) (i : Fin 2048) (h : i.val < 4096) : W3 m c main_v5 (ix2 k i) = argM m c (ix2 ⟨i.val, h⟩ k) :=
  (congrFun (host1_v5 (W2 m c)) (ix2 k i)).trans ((slice_cols _ _ k i h).trans
    ((congrFun (leave_of (V1 m c) main_v4_0 main_v4_1 _ _ (r := main_v1) (by decide) (by decide)) _).trans (V1_v1 m c k ⟨i.val, h⟩)))

theorem W5_v7 (k : Fin 1024) (i : Fin 3072) (h : i.val < 4096) : W5 m c main_v7 (ix2 k i) = argM m c (ix2 ⟨i.val, h⟩ k) :=
  (congrFun (host2_v7 (W4 m c)) (ix2 k i)).trans ((slice_cols _ _ k i h).trans
    ((congrFun (leave_of (W3 m c) main_v6_0 main_v6_1 _ _ (r := main_v1) (by decide) (by decide)) _).trans
      ((congrFun (kept3 m c main_v1 (by decide)) _).trans (V1_v1 m c k ⟨i.val, h⟩))))

variable (R : Fin 4096)
  (above : ∀ i : Fin 4096, i.val < R.val → (Scalar.ofBits .f32 0xEFA18F08#32 : Ideal .f32) ≤ score (argM m c) (argW m c) (argB m c) R.val R.isLt i)

/-- The four regions' results, one above the other. -/
theorem result_S (K : Fin 4) (g : Fin 1024) (hR : R.val = 1024 * K.val + g.val) (j : Fin 50) : W8 m c main_v10 (ix2 R j)
    = (![(dat0 (V1 m) c).arrAt 4 cfg0.N, (dat1 (W3 m) c).arrAt 4 cfg1.N, (dat2 (W5 m) c).arrAt 4 cfg2.N, (dat3 (W6 m) c).arrAt 4 cfg3.N]
      : Fin 4 → FVec Ideal S1024x50 .f32) K (ix2 g j) := by
  rw [← left0_S m c, ← left1_S m c, ← left2_S m c, ← left3_S m c]
  refine ((congrFun (congrFun (congrArg (StableHlo.after hostOps4) (V7_eq m c)) (Proc.devRef .tc main_v10)) (ix2 R j)).trans (congrFun (host4_v10 (W7 m c)) (ix2 R j))).trans ?_
  exact concat_rows _ _ K g R hR j
theorem result_I (K : Fin 4) (g : Fin 1024) (hR : R.val = 1024 * K.val + g.val) (j : Fin 50) : W8 m c main_v11 (ix2 R j)
    = (![(dat0 (V1 m) c).arrAt 5 cfg0.N, (dat1 (W3 m) c).arrAt 5 cfg1.N, (dat2 (W5 m) c).arrAt 5 cfg2.N, (dat3 (W6 m) c).arrAt 5 cfg3.N]
      : Fin 4 → IVec S1024x50 32) K (ix2 g j) := by
  rw [← left0_I m c, ← left1_I m c, ← left2_I m c, ← left3_I m c]
  refine ((congrFun (congrFun (congrArg (StableHlo.after hostOps4) (V7_eq m c)) (Proc.devRef .tc main_v11)) (ix2 R j)).trans (congrFun (host4_v11 (W7 m c)) (ix2 R j))).trans ?_
  exact concat_rows _ _ K g R hR j

include above in
/-- Every row of the two results holds the first fifty entries of the reference's row. -/
theorem kernel_row : Answers (rowR R.val (score (argM m c) (argW m c) (argB m c) R.val R.isLt))
    (fun j => W8 m c main_v10 (ix2 R j)) (fun j => W8 m c main_v11 (ix2 R j)) := by
  obtain ⟨K, g, hR⟩ : ∃ (K : Fin 4) (g : Fin 1024), R.val = 1024 * K.val + g.val :=
    ⟨⟨R.val / 1024, by omega⟩, ⟨R.val % 1024, by omega⟩, by show R.val = 1024 * (R.val / 1024) + R.val % 1024; omega⟩
  simp only [result_S m c R K g hR, result_I m c R K g hR]
  match K, hR with
  | ⟨0, _⟩, hR =>
    exact answers0 (V1 m) c (argM m c) (argW m c) (argB m c) (V1_arg0 m c) (V1_v0 m c) (V1_v2 m c) (V1_v3 m c) g R.val hR R.isLt above
  | ⟨1, _⟩, hR =>
    exact answers1 (W3 m) c (argM m c) (argW m c) (argB m c) ((kept3 m c main_arg0 (by decide)).trans (V1_arg0 m c))
      (fun j k => (congrFun (kept3 m c main_v0 (by decide)) _).trans (V1_v0 m c j k))
      (fun k => (congrFun (kept3 m c main_v2 (by decide)) _).trans (V1_v2 m c k)) (W3_v5 m c) g R.val hR R.isLt above
  | ⟨2, _⟩, hR =>
    exact answers2 (W5 m) c (argM m c) (argW m c) (argB m c)
      ((kept5 m c main_arg0 (by decide)).trans ((kept3 m c main_arg0 (by decide)).trans (V1_arg0 m c)))
      (fun j k => (congrFun ((kept5 m c main_v0 (by decide)).trans (kept3 m c main_v0 (by decide))) _).trans (V1_v0 m c j k))
      (fun k => (congrFun ((kept5 m c main_v2 (by decide)).trans (kept3 m c main_v2 (by decide))) _).trans (V1_v2 m c k)) (W5_v7 m c) g R.val hR R.isLt above
  | ⟨3, _⟩, hR =>
    exact answers3 (W6 m) c (argM m c) (argW m c) (argB m c)
      ((kept6 m c main_arg0 (by decide)).trans ((kept5 m c main_arg0 (by decide)).trans ((kept3 m c main_arg0 (by decide)).trans (V1_arg0 m c))))
      (fun j k => (congrFun ((kept6 m c main_v0 (by decide)).trans ((kept5 m c main_v0 (by decide)).trans (kept3 m c main_v0 (by decide)))) _).trans (V1_v0 m c j k))
      (fun k => (congrFun ((kept6 m c main_v2 (by decide)).trans ((kept5 m c main_v2 (by decide)).trans (kept3 m c main_v2 (by decide)))) _).trans (V1_v2 m c k))
      (fun k i _ => (congrFun ((kept6 m c main_v1 (by decide)).trans ((kept5 m c main_v1 (by decide)).trans (kept3 m c main_v1 (by decide)))) _).trans (V1_v1 m c k i))
      g R.val hR R.isLt above

end Rows

end Cert.KernelIdeal.Run

end
-- ==== Proof.TopK.lean ====
/- The reference's selection at a row: the first fifty entries in order of their scores, the lower column first. -/
module

public import proofs.«01_k».proof.Proof.Pick
public import Idealize.ShloMosaic.Lib.SortPrefix
public import Idealize.ShloMosaic.Lib.ValueIdxCore
public import Idealize.ShloMosaic.PureOps.Ideal

@[expose] public section

noncomputable section

namespace Cert.Pick

open Idealize.ShloMosaic Idealize.ShloMosaic.ValueIdx

section Stable

variable {ι : Type} {B B' : ι → ι → Bool}

theorem insert_same (a : ι) : ∀ l : List ι, (∀ b ∈ l, B b a = B' b a) → insertBefore B a l = insertBefore B' a l
  | [], _ => rfl
  | b :: l, h => by
    unfold insertBefore
    rw [h b List.mem_cons_self, insert_same a l fun c hc => h c (List.mem_cons_of_mem b hc)]

/-- Two comparisons that agree on each later element against each earlier one sort a list alike. -/
theorem sort_same : ∀ l : List ι, (l.Pairwise fun a b => B b a = B' b a) → stableSort B l = stableSort B' l
  | [], _ => rfl
  | a :: l, h => by
    unfold stableSort
    rw [sort_same l (List.pairwise_cons.mp h).2]
    exact insert_same a _ fun b hb => (List.pairwise_cons.mp h).1 b ((perm_stableSort B' l).mem_iff.mp hb)

end Stable

open Classical in
/-- A stable sort by falling entries puts at `n` the `n`-th of the first entries in order. -/
theorem sorted_firsts {n N : ℕ} (y : Fin n → EReal) (f : ℕ → Fin n) (h : Firsts y Fin.val N f) (hN : N ≤ n) (B : Fin n → Fin n → Bool)
    (hB : ∀ a b, B a b = decide (y b < y a)) (j : Fin N) : sortedFrom B (j.castLE hN) = f j := by
  have hT : StrictTotalBefore fun a b : Fin n => decide (before y Fin.val a b) := {
    irrefl := fun a => decide_eq_false fun h => h.not_swap h
    trans := fun a b c h h' => decide_eq_true ((of_decide_eq_true h).trans (of_decide_eq_true h'))
    total := fun a b hne => by
      simp only [decide_eq_true_eq]
      unfold before
      rcases lt_trichotomy (y a) (y b) with h | h | h
      · exact .inr (.inl h)
      · rcases Nat.lt_or_gt_of_ne (fun e => hne (Fin.ext e)) with l | l
        · exact .inl (.inr ⟨h, l⟩)
        · exact .inr (.inr ⟨h.symm, l⟩)
      · exact .inl (.inl h) }
  have hs : sortPositions n B = sortPositions n fun a b : Fin n => decide (before y Fin.val a b) := by
    refine sort_same _ ((List.pairwise_lt_finRange n).imp fun {a b} hab => ?_)
    rw [hB]
    refine decide_eq_decide.mpr ⟨fun h => .inl h, fun h => h.elim id fun h => absurd h.2 (not_lt.mpr (le_of_lt hab))⟩
  have hf : sortedFrom B (j.castLE hN) = sortedFrom (fun a b : Fin n => decide (before y Fin.val a b)) (j.castLE hN) := by
    unfold sortedFrom
    exact List.get_of_eq hs _
  rw [hf]
  refine hT.sortedFrom_eq_of_prefix hN (fun i : Fin N => f i) ?_ ?_ ?_ j
  · intro a b e
    by_contra hne
    exact h.ne a.isLt b.isLt (fun e => hne (Fin.ext e)) e
  · intro a b hab
    exact decide_eq_false fun h' => h'.not_swap (h.ordered b.isLt hab)
  · intro a p hp
    exact decide_eq_false fun h' => h'.not_swap (h.best a a.isLt p (fun j hj => hp ⟨j, hj.trans a.isLt⟩) (hp a).symm)

/-- The selection of the greatest `N` along the second axis, at a row whose first entries in order are `f`. -/
theorem topK_firsts {R C N : ℕ} (x : FVec Ideal ⟨2, ![R, C]⟩ .f32) (h : (⟨2, ![R, C]⟩ : Shape).Slices (fun _ => 0) ⟨2, ![R, N]⟩) (hN : N ≤ C)
    (r : Fin R) (f : ℕ → Fin C) (hf : Firsts (fun i => (x (ix2 r i) : EReal)) Fin.val N f) (j : Fin N) :
    (Host.topK ⟨2, ![R, N]⟩ 1 (FloatOps.cmpfTotal .gt) x h).1 (ix2 r j) = x (ix2 r (f j))
    ∧ (Host.topK ⟨2, ![R, N]⟩ 1 (FloatOps.cmpfTotal .gt) x h).2 (ix2 r j) = BitVec.ofNat 32 (f j) := by
  classical
  have along : ∀ (i : Fin C) (k : Fin C), (ix2 r i : (⟨2, ![R, C]⟩ : Shape).Idx).along 1 k = ix2 r k := by
    intro i k
    funext a
    match a with
    | ⟨0, _⟩ => rfl
    | ⟨1, _⟩ => rfl
  have start : ∀ {α : Type} (y : (⟨2, ![R, C]⟩ : Shape).Idx → α), extractStridedSlice ⟨2, ![R, N]⟩ (fun _ => 0) y h (ix2 r j) = y (ix2 r (j.castLE hN)) := by
    intro α y
    unfold extractStridedSlice
    congr 1
    funext a
    match a with
    | ⟨0, _⟩ => exact Fin.ext (Nat.zero_add _)
    | ⟨1, _⟩ => exact Fin.ext (Nat.zero_add _)
  have hs : sortedFrom (fun k k' : Fin C => (FloatOps.cmpfTotal .gt (x ((ix2 r (j.castLE hN) : (⟨2, ![R, C]⟩ : Shape).Idx).along 1 k))
      (x ((ix2 r (j.castLE hN) : (⟨2, ![R, C]⟩ : Shape).Idx).along 1 k')) : BitVec 1) == 1#1) (j.castLE hN) = f j := by
    refine sorted_firsts (fun i => (x (ix2 r i) : EReal)) f hf hN _ ?_ j
    intro a b
    rw [along, along]
    show (Ideal.cmp .ogt (x (ix2 r a)) (x (ix2 r b)) == 1#1) = _
    by_cases hc : x (ix2 r b) < x (ix2 r a) <;> simp [Ideal.cmp, hc]
  constructor
  · unfold Host.topK
    dsimp only
    refine (start _).trans ?_
    unfold Host.sort2
    rw [dif_pos (show 1 < (⟨2, ![R, C]⟩ : Shape).rank from one_lt_two)]
    exact congrArg x ((along _ _).trans (congrArg (ix2 r) hs))
  · unfold Host.topK
    dsimp only
    refine (start _).trans ?_
    unfold Host.sort2
    rw [dif_pos (show 1 < (⟨2, ![R, C]⟩ : Shape).rank from one_lt_two)]
    exact congrArg (fun i : (⟨2, ![R, C]⟩ : Shape).Idx => BitVec.ofNat 32 (i 1).val) ((along (j.castLE hN) _).trans (congrArg (ix2 r) hs))

end Cert.Pick

end
-- ==== Proof.Host.lean ====
/- The reference's matrix of masked scores at an entry, and its rows put out. -/
module

public import proofs.«01_k».proof.Proof.Block
public import proofs.«01_k».proof.Proof.TopK
public import Idealize.ShloMosaic.Lib.StackMember

@[expose] public section

noncomputable section

namespace Cert.Span

open Idealize.ShloMosaic Idealize.ShloMosaic.ValueIdx Cert.Pick
open scoped BigOperators

/-- A column copied along the rows, at an entry. -/
theorem spread_rows {α : Type} {n k : ℕ} (x : (⟨1, ![n]⟩ : Shape).Idx → α) (h₁ : (⟨1, ![n]⟩ : Shape).BroadcastsInDim (sh n 1) ![0])
    (h₂ : (sh n 1).BroadcastsInDim (sh n k) ![0, 1]) (hn : n ≠ 1) (r : Fin n) (i : Fin k) :
    broadcastInDim (sh n k) ![0, 1] h₂ (broadcastInDim (sh n 1) ![0] h₁ x) (ix2 r i) = x (ix1 r) := by
  refine (broadcastInDim_apply ![0, 1] h₂ _ (ix2 r i) (ix2 r 0) fun a => ?_).trans
    (broadcastInDim_apply ![0] h₁ x (ix2 r 0) (ix1 r) fun a => ?_)
  · match a with
    | ⟨0, _⟩ => exact (if_neg hn).symm
    | ⟨1, _⟩ => exact (if_pos rfl).symm
  · match a with
    | ⟨0, _⟩ => exact (if_neg hn).symm

/-- A row copied along the columns, at an entry. -/
theorem spread_cols {α : Type} {n k : ℕ} (x : (⟨1, ![k]⟩ : Shape).Idx → α) (h₁ : (⟨1, ![k]⟩ : Shape).BroadcastsInDim (sh 1 k) ![1])
    (h₂ : (sh 1 k).BroadcastsInDim (sh n k) ![0, 1]) (hk : k ≠ 1) (r : Fin n) (i : Fin k) :
    broadcastInDim (sh n k) ![0, 1] h₂ (broadcastInDim (sh 1 k) ![1] h₁ x) (ix2 r i) = x (ix1 i) := by
  refine (broadcastInDim_apply ![0, 1] h₂ _ (ix2 r i) (ix2 0 i) fun a => ?_).trans
    (broadcastInDim_apply ![1] h₁ x (ix2 0 i) (ix1 i) fun a => ?_)
  · match a with
    | ⟨0, _⟩ => exact (if_pos rfl).symm
    | ⟨1, _⟩ => exact (if_neg hk).symm
  · match a with
    | ⟨0, _⟩ => exact (if_neg hk).symm

section Scores

variable (M : FVec Ideal (sh 4096 1024) .f32) (A : FVec Ideal (sh 1024 1024) .f32) (b : FVec Ideal ⟨1, ![1024]⟩ .f32)
variable (t₁ : (sh 1024 1024).Transposes [1, 0] (sh 1024 1024)) (t₂ : (sh 4096 1024).Transposes [1, 0] (sh 1024 4096))
variable (b₁ : (⟨1, ![1024]⟩ : Shape).BroadcastsInDim (sh 1 1024) ![1]) (b₂ : (sh 1 1024).BroadcastsInDim (sh 4096 1024) ![0, 1])

/-- The whole matrix of scores, as the host computes it. -/
def hostScores : FVec Ideal (sh 4096 4096) .f32 :=
  Host.dotGeneral (DotDims.plain 4096 1024 4096) none
    (addf (Host.dotGeneral (DotDims.plain 4096 1024 1024) none M (transpose (sh 1024 1024) [1, 0] A t₁))
      (broadcastInDim (sh 4096 1024) ![0, 1] b₂ (broadcastInDim (sh 1 1024) ![1] b₁ b)))
    (transpose (sh 1024 4096) [1, 0] M t₂)

theorem hostScores_apply (R i : Fin 4096) : hostScores M A b t₁ t₂ b₁ b₂ (ix2 R i) = score M A b R.val R.isLt i := by
  unfold hostScores score form
  refine (StackMember.dotGeneral_plain_apply none _ _ R i).trans (Finset.sum_congr rfl fun k _ => ?_)
  refine congrArg₂ (· * ·) ?_ (transpose_ix2_apply M t₂ k i)
  show (_ : EReal) + (_ : EReal) = _
  refine congrArg₂ (· + ·) ?_ (spread_cols b b₁ b₂ (by decide) R k)
  refine (StackMember.dotGeneral_plain_apply none _ _ R k).trans (Finset.sum_congr rfl fun j _ => ?_)
  exact congrArg₂ (· * ·) rfl (transpose_ix2_apply A t₁ j k)

end Scores

/-- Whether one small natural is above another, by the sign of the difference of their words. -/
theorem sgt_sub {a b : ℕ} (ha : a < 4096) (hb : b < 4096) :
    IntOp.cmpi .sgt (BitVec.ofNat 32 a - BitVec.ofNat 32 b) 0#32 = BitVec.ofBool (decide (b < a)) := by
  show BitVec.ofBool ((0#32).slt (BitVec.ofNat 32 a - BitVec.ofNat 32 b)) = _
  congr 1
  rw [BitVec.slt_eq_decide]
  congr 1
  have e : ∀ {c : ℕ}, c < 4096 → (BitVec.ofNat 32 c).toInt = (c : ℤ) := fun {c} hc => by
    have hn : (BitVec.ofNat 32 c).toNat = c := by rw [BitVec.toNat_ofNat]; omega
    rw [BitVec.toInt_eq_toNat_of_lt (by rw [hn]; omega), hn]
  rw [BitVec.toInt_sub, e ha, e hb, Int.bmod_eq_of_le (by omega) (by omega)]
  simp

/-- The logarithm of a truth value: nothing, or the least of all values. -/
theorem log_truth (p : Prop) [Decidable p] :
    FloatOps.hostUnary .log (FloatOps.uitofp .f32 (BitVec.ofBool (decide p)) : Ideal .f32) = if p then (0 : EReal) else (⊥ : EReal) := by
  show Ideal.log (((BitVec.ofBool (decide p)).toNat : ℝ) : EReal) = _
  rw [Ideal.log_coe]
  by_cases h : p <;> simp [h]

section Masked

variable (i₁ : (⟨1, ![4096]⟩ : Shape).BroadcastsInDim (sh 4096 1) ![0]) (i₂ : (sh 4096 1).BroadcastsInDim (sh 4096 4096) ![0, 1])
variable (i₃ : (⟨1, ![4096]⟩ : Shape).BroadcastsInDim (sh 1 4096) ![1]) (i₄ : (sh 1 4096).BroadcastsInDim (sh 4096 4096) ![0, 1])
variable (z₁ : (⟨0, ![]⟩ : Shape).BroadcastsInDim (sh 4096 4096) ![])

/-- The logarithm of the mask, as the host computes it. -/
def hostMask : FVec Ideal (sh 4096 4096) .f32 :=
  Host.log (uitofp .f32 (cmpi .sgt (subi (broadcastInDim (sh 4096 4096) ![0, 1] i₂ (broadcastInDim (sh 4096 1) ![0] i₁ (iotaInDim ⟨1, ![4096]⟩ 32 0)))
    (broadcastInDim (sh 4096 4096) ![0, 1] i₄ (broadcastInDim (sh 1 4096) ![1] i₃ (iotaInDim ⟨1, ![4096]⟩ 32 0))))
    (broadcastInDim (sh 4096 4096) ![] z₁ (constantI ⟨0, ![]⟩ 32 0#32))))

theorem hostMask_apply (R i : Fin 4096) : hostMask i₁ i₂ i₃ i₄ z₁ (ix2 R i) = if i.val < R.val then (0 : EReal) else (⊥ : EReal) := by
  unfold hostMask
  show FloatOps.hostUnary .log (FloatOps.uitofp .f32 (IntOp.cmpi .sgt
    ((broadcastInDim (sh 4096 4096) ![0, 1] i₂ (broadcastInDim (sh 4096 1) ![0] i₁ (iotaInDim ⟨1, ![4096]⟩ 32 0)) (ix2 R i))
      - (broadcastInDim (sh 4096 4096) ![0, 1] i₄ (broadcastInDim (sh 1 4096) ![1] i₃ (iotaInDim ⟨1, ![4096]⟩ 32 0)) (ix2 R i))) 0#32) : Ideal .f32) = _
  rw [spread_rows _ i₁ i₂ (by decide) R i, spread_cols _ i₃ i₄ (by decide) R i]
  show FloatOps.hostUnary .log (FloatOps.uitofp .f32 (IntOp.cmpi .sgt (BitVec.ofNat 32 R.val - BitVec.ofNat 32 i.val) 0#32) : Ideal .f32) = _
  rw [sgt_sub R.isLt i.isLt]
  exact log_truth _

/-- An entry of the masked matrix is the reference's row's. -/
theorem masked_apply (x : FVec Ideal (sh 4096 4096) .f32) (R i : Fin 4096) :
    addf (hostMask i₁ i₂ i₃ i₄ z₁) x (ix2 R i) = rowR R.val (fun j => x (ix2 R j)) i := by
  show (hostMask i₁ i₂ i₃ i₄ z₁ (ix2 R i) : EReal) + (x (ix2 R i) : EReal) = _
  rw [hostMask_apply]
  unfold rowR
  split
  · exact zero_add _
  · exact EReal.bot_add _

end Masked

/-- The rows put out by the reference are determined by their first fifty entries. -/
theorem topK_answers (x : FVec Ideal (sh 4096 4096) .f32) (h : (sh 4096 4096).Slices (fun _ => 0) (sh 4096 50)) (R : Fin 4096)
    {v : Fin 50 → EReal} {n : Fin 50 → BitVec 32} (a : Answers (fun i => x (ix2 R i)) v n) (j : Fin 50) :
    v j = (Host.topK (sh 4096 50) 1 (FloatOps.cmpfTotal .gt) x h).1 (ix2 R j)
    ∧ n j = (Host.topK (sh 4096 50) 1 (FloatOps.cmpfTotal .gt) x h).2 (ix2 R j) := by
  obtain ⟨f, hf, ho⟩ := a
  have e := topK_firsts x h (by decide) R f hf j
  exact ⟨(ho j).1.trans e.1.symm, (ho j).2.trans e.2.symm⟩

end Cert.Span

end
-- ==== Proof.Equal.lean ====
/- The reference's two results are the kernel's: both rows hold the first fifty entries of one row of masked scores. -/
module

public import proofs.«01_k».proof.Proof.Values
public import proofs.«01_k».proof.Proof.Host
public import proofs.«01_k».proof.Proof.Gen.ReferenceIdeal.Run

@[expose] public section

noncomputable section

namespace Cert.Equal

open Cert.KernelIdeal.Run Cert.Span
open Cert.ReferenceIdeal Cert.ReferenceIdeal.Gen
open Idealize.ShloMosaic Idealize.ShloMosaic.TcCoe Idealize.ShloMosaic.ValueIdx

/-- The reference's masked scores. -/
def masked (M : FVec Ideal (sh 4096 1024) .f32) (A : FVec Ideal (sh 1024 1024) .f32) (b : FVec Ideal ⟨1, ![1024]⟩ .f32) : FVec Ideal (sh 4096 4096) .f32 :=
  addf (hostMask bcast_S4096_S4096x1_0 bcast_S4096x1_S4096x4096_0_1 bcast_S4096_S1x4096_1 bcast_S1x4096_S4096x4096_0_1 bcast_S_S4096x4096)
    (hostScores M A b transposes_S1024x1024_S1024x1024_1_0 transposes_S4096x1024_S1024x4096_1_0 bcast_S1024_S1x1024_1 bcast_S1x1024_S4096x1024_0_1)

theorem masked_row (M : FVec Ideal (sh 4096 1024) .f32) (A : FVec Ideal (sh 1024 1024) .f32) (b : FVec Ideal ⟨1, ![1024]⟩ .f32) (R : Fin 4096) :
    (fun i => (masked M A b (ix2 R i) : EReal)) = rowR R.val (score M A b R.val R.isLt) := by
  funext i
  refine (masked_apply _ _ _ _ _ _ R i).trans (congrFun (congrArg (rowR R.val) (funext fun j => ?_)) i)
  exact hostScores_apply M A b _ _ _ _ R j

/-- The reference's two results, row by row. -/
theorem equal (m : (ℓ : Loc Cert.KernelIdeal.nD Cert.KernelIdeal.τ Cert.KernelIdeal.sig) → Buf (Elt Ideal) ℓ) (c : Dev Cert.KernelIdeal.nD)
    (above : ∀ R i : Fin 4096, i.val < R.val → (Scalar.ofBits .f32 0xEFA18F08#32 : Ideal .f32) ≤ score (argM m c) (argW m c) (argB m c) R.val R.isLt i) :
    (Host.topK (sh 4096 50) 1 (FloatOps.cmpfTotal .gt) (masked (argM m c) (argW m c) (argB m c)) sliceFits_S4096x4096_S4096x50).1
        = W8 m c Cert.KernelIdeal.main_v10
    ∧ (Host.topK (sh 4096 50) 1 (FloatOps.cmpfTotal .gt) (masked (argM m c) (argW m c) (argB m c)) sliceFits_S4096x4096_S4096x50).2
        = W8 m c Cert.KernelIdeal.main_v11 := by
  have h (R : Fin 4096) (j : Fin 50) := topK_answers (masked (argM m c) (argW m c) (argB m c)) sliceFits_S4096x4096_S4096x50 R
    (by rw [masked_row]; exact kernel_row m c R (above R)) j
  constructor
  · funext x
    obtain ⟨R, j, rfl⟩ : ∃ (R : Fin 4096) (j : Fin 50), x = ix2 R j := ⟨x 0, x 1, eq_ix2 x⟩
    exact (h R j).1.symm
  · funext x
    obtain ⟨R, j, rfl⟩ : ∃ (R : Fin 4096) (j : Fin 50), x = ix2 R j := ⟨x 0, x 1, eq_ix2 x⟩
    exact (h R j).2.symm

end Cert.Equal

end
-- ==== Proof.Above.lean ====
/- The precondition read at an entry: a score that counts is not below the least score the kernel tells from its mask. -/
module

public import proofs.«01_k».proof.Pre_scores_above_mask
public import proofs.«01_k».proof.Proof.Host

@[expose] public section

noncomputable section

namespace Cert.Span

open Idealize.ShloMosaic Idealize.ShloMosaic.ValueIdx

/-- The precondition's own shape facts. -/
theorem preFacts : Cert.Pre_scores_above_mask.Facts where
  transposes_S1024x1024_S1024x1024_1_0 := by decide
  bcast_S1024_S1x1024_1 := by decide
  bcast_S1x1024_S4096x1024_0_1 := by decide
  transposes_S4096x1024_S1024x4096_1_0 := by decide
  bcast_S4096_S4096x1_0 := by decide
  bcast_S4096_S1x4096_1 := by decide
  bcast_S4096x1_S4096x4096_0_1 := by decide
  bcast_S1x4096_S4096x4096_0_1 := by decide
  bcast_S_S4096x4096 := by decide
  dot_S4096x1024_S1024x1024_S4096x1024_1_0_0_1_n_n_wf := by decide
  dot_S4096x1024_S1024x4096_S4096x4096_1_0_0_1_n_n_wf := by decide

/-- Whether one small natural is above another, by their words. -/
theorem sgt_nat {a b : ℕ} (ha : a < 4096) (hb : b < 4096) (h : b < a) : IntOp.cmpi .sgt (BitVec.ofNat 32 a) (BitVec.ofNat 32 b) = 1#1 := by
  show BitVec.ofBool ((BitVec.ofNat 32 b).slt (BitVec.ofNat 32 a)) = _
  have e : ∀ {c : ℕ}, c < 4096 → (BitVec.ofNat 32 c).toInt = (c : ℤ) := fun {c} hc => by
    have hn : (BitVec.ofNat 32 c).toNat = c := by rw [BitVec.toNat_ofNat]; omega
    rw [BitVec.toInt_eq_toNat_of_lt (by rw [hn]; omega), hn]
  rw [BitVec.slt_eq_decide, e ha, e hb]
  simp [h]

theorem oge_true {x y : EReal} (h : FloatOps.cmpf (F := Ideal) (φ := .f32) .oge x y = 1#1) : y ≤ x := by
  by_contra hc
  have : FloatOps.cmpf (F := Ideal) (φ := .f32) .oge x y = 0#1 := by
    show Ideal.cmp .oge x y = 0#1
    simp [Ideal.cmp, hc]
  rw [this] at h
  exact absurd h (by decide)

theorem above_of_pre [Cert.Pre_scores_above_mask.Facts] (M : FVec Ideal (sh 4096 1024) .f32) (A : FVec Ideal (sh 1024 1024) .f32) (b : FVec Ideal ⟨1, ![1024]⟩ .f32)
    (h : Cert.Pre_scores_above_mask.fn M A b = fun _ => 1#1) (R i : Fin 4096) (hi : i.val < R.val) :
    (Scalar.ofBits .f32 0xEFA18F08#32 : Ideal .f32) ≤ score M A b R.val R.isLt i := by
  have e := congrFun h (ix2 R i)
  have e' : FloatOps.cmpf (F := Ideal) (φ := .f32) .oge
      (Scalar.select (IntOp.cmpi .sgt
          (broadcastInDim (sh 4096 4096) ![0, 1] Cert.Pre_scores_above_mask.Facts.bcast_S4096x1_S4096x4096_0_1 (broadcastInDim (sh 4096 1) ![0] Cert.Pre_scores_above_mask.Facts.bcast_S4096_S4096x1_0 (iotaInDim ⟨1, ![4096]⟩ 32 0)) (ix2 R i))
          (broadcastInDim (sh 4096 4096) ![0, 1] Cert.Pre_scores_above_mask.Facts.bcast_S1x4096_S4096x4096_0_1 (broadcastInDim (sh 1 4096) ![1] Cert.Pre_scores_above_mask.Facts.bcast_S4096_S1x4096_1 (iotaInDim ⟨1, ![4096]⟩ 32 0)) (ix2 R i)))
        (hostScores M A b Cert.Pre_scores_above_mask.Facts.transposes_S1024x1024_S1024x1024_1_0 Cert.Pre_scores_above_mask.Facts.transposes_S4096x1024_S1024x4096_1_0 Cert.Pre_scores_above_mask.Facts.bcast_S1024_S1x1024_1
          Cert.Pre_scores_above_mask.Facts.bcast_S1x1024_S4096x1024_0_1 (ix2 R i)) (FloatOps.ofBits .f32 0x00000000#32 : Ideal .f32))
      (Scalar.ofBits .f32 0xEFA18F08#32 : Ideal .f32) = 1#1 := e
  rw [spread_rows _ _ _ (by decide) R i, spread_cols _ _ _ (by decide) R i, hostScores_apply] at e'
  rw [show iotaInDim ⟨1, ![4096]⟩ 32 0 (ix1 R) = BitVec.ofNat 32 R.val from rfl, show iotaInDim ⟨1, ![4096]⟩ 32 0 (ix1 i) = BitVec.ofNat 32 i.val from rfl,
    sgt_nat R.isLt i.isLt hi] at e'
  exact oge_true e'

end Cert.Span

end
-- ==== Proof.lean ====
module

public import proofs.«01_k».proof.Defs
public import proofs.«01_k».proof.Proof.Gen.ReferenceIdeal.Run
public import proofs.«01_k».proof.Proof.Whole
public import proofs.«01_k».proof.Proof.Equal
public import proofs.«01_k».proof.Proof.Above
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init
public import Idealize.ShloMosaic.Lib.Tactic

@[expose] public section

noncomputable section

namespace Cert.Proof

open Idealize.ShloMosaic Idealize.SL.Sem Cert.Kernel

/-- The kernel as printed has the run of the program read at the extended reals: the same @main, the same bodies. -/
theorem main_same (m : (ℓ : Loc Cert.Kernel.nD Cert.Kernel.τ Cert.Kernel.sig) → Buf (Elt Bits) ℓ) (g : Dev Cert.Kernel.nD → PrngReg)
    (Q : PUnit × MemSt Cert.Kernel.nD Cert.Kernel.τ Cert.Kernel.sig (Elt Bits) → Prop) :
    θ_run (Cert.KernelIdeal.defs (F := Bits)) (onTc (τ := Cert.KernelIdeal.τ) (Cert.KernelIdeal.main (F := Bits))) ⟨m, fun _ => 0, g⟩ Q
      = θ_run (Cert.Kernel.defs (F := Bits)) (onTc (τ := Cert.Kernel.τ) (Cert.Kernel.main (F := Bits))) ⟨m, fun _ => 0, g⟩ Q := by
  sl_kernel_rfl

/-- So the run proved of that one at every reading of the floats is the printed kernel's. -/
theorem frame_kernel : quiescent_Kernel (hKernel := Cert.Kernel.Gen.facts) := fun m g _ => by
  rw [← main_same]
  exact Cert.KernelIdeal.Run.frame (F := Bits) m g

/-- The kernel over the extended reals. -/
theorem frame_ideal : quiescent_KernelIdeal (hKernelIdeal := Cert.KernelIdeal.Gen.facts) := fun m g _ =>
  Cert.KernelIdeal.Run.frame m g

/-- The reference over the extended reals. -/
theorem frame_reference : quiescent_ReferenceIdeal (hReferenceIdeal := Cert.ReferenceIdeal.Gen.facts) := fun m g _ =>
  θ_run_mono (Cert.ReferenceIdeal.Value.run m g) fun r h => ⟨fun c => (h c).2.2, sem_eq_zero_of_no_sems (by decide) r.2⟩

/-- Under the precondition, the two programs' results are equal. -/
theorem equal_ideal : algebraic_KernelIdeal_ReferenceIdeal_pre_scores_above_mask (hKernelIdeal := Cert.KernelIdeal.Gen.facts)
    (hReferenceIdeal := Cert.ReferenceIdeal.Gen.facts) (hPre_scores_above_mask := Cert.Span.preFacts) := by
  intro m g m' g' hpre hargs
  refine ⟨fun c => Cert.KernelIdeal.Run.W8 m c (Proc.devRef .tc Cert.KernelIdeal.main_v10), fun c => Cert.KernelIdeal.Run.W8 m c (Proc.devRef .tc Cert.KernelIdeal.main_v11),
    θ_run_mono (Cert.KernelIdeal.Run.run m g) fun r h c => ⟨(h.1 c).2.1, (h.1 c).2.2, (h.1 c).1⟩,
    θ_run_mono (Cert.ReferenceIdeal.Value.run m' g') fun r h c => ?_⟩
  have e := Cert.Equal.equal m c fun R i hi => @Cert.Span.above_of_pre Cert.Span.preFacts _ _ _ (hpre c) R i hi
  obtain ⟨h₁, h₂, h₃⟩ := h c
  obtain ⟨a₀, a₁, a₂⟩ := hargs c
  rw [a₀, a₁, a₂] at h₁ h₂
  exact ⟨h₁.trans e.1, h₂.trans e.2, h₃⟩

theorem claim : Cert.Claim := ⟨Cert.Kernel.Gen.facts, Cert.KernelIdeal.Gen.facts, Cert.ReferenceIdeal.Gen.facts, Cert.Span.preFacts,
  frame_kernel, frame_ideal, fun m g _ => frame_ideal m g trivial, frame_reference, fun m g _ => frame_reference m g trivial, trivial, equal_ideal⟩

end Cert.Proof

end
